-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite [hPre_finite : Cert.Pre_finite.Facts] (m : (ℓ : Loc Cert.SwaIdeal.nD Cert.SwaIdeal.τ Cert.SwaIdeal.sig) → Buf (Elt Ideal) ℓ) : Prop :=
  ∀ c : Dev Cert.SwaIdeal.nD,
    (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SharedUp (m : (ℓ : Loc Cert.SharedUp.nD Cert.SharedUp.τ Cert.SharedUp.sig) → Buf (Elt Bits) ℓ) : Prop :=
  True

def Pre_SharedUpIdeal (m : (ℓ : Loc Cert.SharedUpIdeal.nD Cert.SharedUpIdeal.τ Cert.SharedUpIdeal.sig) → Buf (Elt Ideal) ℓ) : Prop :=
  True

def Pre_SharedUpRefIdeal (m : (ℓ : Loc Cert.SharedUpRefIdeal.nD Cert.SharedUpRefIdeal.τ Cert.SharedUpRefIdeal.sig) → Buf (Elt Ideal) ℓ) : Prop :=
  True

def Pre_SharedDown (m : (ℓ : Loc Cert.SharedDown.nD Cert.SharedDown.τ Cert.SharedDown.sig) → Buf (Elt Bits) ℓ) : Prop :=
  True

def Pre_SharedDownIdeal (m : (ℓ : Loc Cert.SharedDownIdeal.nD Cert.SharedDownIdeal.τ Cert.SharedDownIdeal.sig) → Buf (Elt Ideal) ℓ) : Prop :=
  True

def Pre_SharedDownRefIdeal (m : (ℓ : Loc Cert.SharedDownRefIdeal.nD Cert.SharedDownRefIdeal.τ Cert.SharedDownRefIdeal.sig) → Buf (Elt Ideal) ℓ) : Prop :=
  True

def Pre_Experts [hPre_tables_ok : Cert.Pre_tables_ok.Facts] (m : (ℓ : Loc Cert.Experts.nD Cert.Experts.τ Cert.Experts.sig) → Buf (Elt Bits) ℓ) : Prop :=
  ∀ c : Dev Cert.Experts.nD,
    (Cert.Pre_tables_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables_ok : Cert.Pre_tables_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_ok [hPre_tables_ok : Cert.Pre_tables_ok.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_ok.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_NatQkv (m : (ℓ : Loc Cert.NatQkv.nD Cert.NatQkv.τ Cert.NatQkv.sig) → Buf (Elt Bits) ℓ) : Prop :=
  True

def Pre_NatQkvIdeal (m : (ℓ : Loc Cert.NatQkvIdeal.nD Cert.NatQkvIdeal.τ Cert.NatQkvIdeal.sig) → Buf (Elt Ideal) ℓ) : Prop :=
  True

def Pre_NatQkvRefIdeal (m : (ℓ : Loc Cert.NatQkvRefIdeal.nD Cert.NatQkvRefIdeal.τ Cert.NatQkvRefIdeal.sig) → Buf (Elt Ideal) ℓ) : Prop :=
  True

def Pre_SwaQkv (m : (ℓ : Loc Cert.SwaQkv.nD Cert.SwaQkv.τ Cert.SwaQkv.sig) → Buf (Elt Bits) ℓ) : Prop :=
  True

def Pre_SwaQkvIdeal (m : (ℓ : Loc Cert.SwaQkvIdeal.nD Cert.SwaQkvIdeal.τ Cert.SwaQkvIdeal.sig) → Buf (Elt Ideal) ℓ) : Prop :=
  True

def Pre_SwaQkvRefIdeal (m : (ℓ : Loc Cert.SwaQkvRefIdeal.nD Cert.SwaQkvRefIdeal.τ Cert.SwaQkvRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_finite [hSwaIdeal : Cert.SwaIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_SharedUp [hSharedUp : Cert.SharedUp.Facts] : Prop :=
  ∀ (m : (ℓ : Loc Cert.SharedUp.nD Cert.SharedUp.τ Cert.SharedUp.sig) → Buf (Elt Bits) ℓ) (g : Dev Cert.SharedUp.nD → PrngReg), Pre_SharedUp m →
    θ_run (Cert.SharedUp.defs (F := Bits)) (onTc (τ := Cert.SharedUp.τ) (Cert.SharedUp.main (F := Bits))) ⟨m, fun _ => 0, g⟩ (fun r => (∀ c : Dev Cert.SharedUp.nD,
      r.2.mem ((c.tc : Thread Cert.SharedUp.nD Cert.SharedUp.τ).loc Cert.SharedUp.main_arg0) = m ((c.tc : Thread Cert.SharedUp.nD Cert.SharedUp.τ).loc Cert.SharedUp.main_arg0)
      ∧ r.2.mem ((c.tc : Thread Cert.SharedUp.nD Cert.SharedUp.τ).loc Cert.SharedUp.main_arg1) = m ((c.tc : Thread Cert.SharedUp.nD Cert.SharedUp.τ).loc Cert.SharedUp.main_arg1)
      ∧ r.2.mem ((c.tc : Thread Cert.SharedUp.nD Cert.SharedUp.τ).loc Cert.SharedUp.main_arg2) = m ((c.tc : Thread Cert.SharedUp.nD Cert.SharedUp.τ).loc Cert.SharedUp.main_arg2))
      ∧ r.2.sem = fun _ => 0)

def quiescent_SharedUpIdeal [hSharedUpIdeal : Cert.SharedUpIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2))
      ∧ r.2.sem = fun _ => 0)

def quiescent_SharedUpRefIdeal [hSharedUpRefIdeal : Cert.SharedUpRefIdeal.Facts] : Prop :=
  ∀ (m : (ℓ : Loc Cert.SharedUpRefIdeal.nD Cert.SharedUpRefIdeal.τ Cert.SharedUpRefIdeal.sig) → Buf (Elt Ideal) ℓ) (g : Dev Cert.SharedUpRefIdeal.nD → PrngReg), Pre_SharedUpRefIdeal m →
    θ_run (Cert.SharedUpRefIdeal.defs (F := Ideal)) (onTc (τ := Cert.SharedUpRefIdeal.τ) (Cert.SharedUpRefIdeal.main (F := Ideal))) ⟨m, fun _ => 0, g⟩ (fun r => (∀ c : Dev Cert.SharedUpRefIdeal.nD,
      r.2.mem ((c.tc : Thread Cert.SharedUpRefIdeal.nD Cert.SharedUpRefIdeal.τ).loc Cert.SharedUpRefIdeal.main_arg0) = m ((c.tc : Thread Cert.SharedUpRefIdeal.nD Cert.SharedUpRefIdeal.τ).loc Cert.SharedUpRefIdeal.main_arg0)
      ∧ r.2.mem ((c.tc : Thread Cert.SharedUpRefIdeal.nD Cert.SharedUpRefIdeal.τ).loc Cert.SharedUpRefIdeal.main_arg1) = m ((c.tc : Thread Cert.SharedUpRefIdeal.nD Cert.SharedUpRefIdeal.τ).loc Cert.SharedUpRefIdeal.main_arg1)
      ∧ r.2.mem ((c.tc : Thread Cert.SharedUpRefIdeal.nD Cert.SharedUpRefIdeal.τ).loc Cert.SharedUpRefIdeal.main_arg2) = m ((c.tc : Thread Cert.SharedUpRefIdeal.nD Cert.SharedUpRefIdeal.τ).loc Cert.SharedUpRefIdeal.main_arg2))
      ∧ r.2.sem = fun _ => 0)

def quiescent_SharedDown [hSharedDown : Cert.SharedDown.Facts] : Prop :=
  ∀ (m : (ℓ : Loc Cert.SharedDown.nD Cert.SharedDown.τ Cert.SharedDown.sig) → Buf (Elt Bits) ℓ) (g : Dev Cert.SharedDown.nD → PrngReg), Pre_SharedDown m →
    θ_run (Cert.SharedDown.defs (F := Bits)) (onTc (τ := Cert.SharedDown.τ) (Cert.SharedDown.main (F := Bits))) ⟨m, fun _ => 0, g⟩ (fun r => (∀ c : Dev Cert.SharedDown.nD,
      r.2.mem ((c.tc : Thread Cert.SharedDown.nD Cert.SharedDown.τ).loc Cert.SharedDown.main_arg0) = m ((c.tc : Thread Cert.SharedDown.nD Cert.SharedDown.τ).loc Cert.SharedDown.main_arg0)
      ∧ r.2.mem ((c.tc : Thread Cert.SharedDown.nD Cert.SharedDown.τ).loc Cert.SharedDown.main_arg1) = m ((c.tc : Thread Cert.SharedDown.nD Cert.SharedDown.τ).loc Cert.SharedDown.main_arg1)
      ∧ r.2.mem ((c.tc : Thread Cert.SharedDown.nD Cert.SharedDown.τ).loc Cert.SharedDown.main_arg2) = m ((c.tc : Thread Cert.SharedDown.nD Cert.SharedDown.τ).loc Cert.SharedDown.main_arg2)
      ∧ r.2.mem ((c.tc : Thread Cert.SharedDown.nD Cert.SharedDown.τ).loc Cert.SharedDown.main_arg3) = m ((c.tc : Thread Cert.SharedDown.nD Cert.SharedDown.τ).loc Cert.SharedDown.main_arg3))
      ∧ r.2.sem = fun _ => 0)

def quiescent_SharedDownIdeal [hSharedDownIdeal : Cert.SharedDownIdeal.Facts] : Prop :=
  ∀ (m : (ℓ : Loc Cert.SharedDownIdeal.nD Cert.SharedDownIdeal.τ Cert.SharedDownIdeal.sig) → Buf (Elt Ideal) ℓ) (g : Dev Cert.SharedDownIdeal.nD → PrngReg), Pre_SharedDownIdeal m →
    θ_run (Cert.SharedDownIdeal.defs (F := Ideal)) (onTc (τ := Cert.SharedDownIdeal.τ) (Cert.SharedDownIdeal.main (F := Ideal))) ⟨m, fun _ => 0, g⟩ (fun r => (∀ c : Dev Cert.SharedDownIdeal.nD,
      r.2.mem ((c.tc : Thread Cert.SharedDownIdeal.nD Cert.SharedDownIdeal.τ).loc Cert.SharedDownIdeal.main_arg0) = m ((c.tc : Thread Cert.SharedDownIdeal.nD Cert.SharedDownIdeal.τ).loc Cert.SharedDownIdeal.main_arg0)
      ∧ r.2.mem ((c.tc : Thread Cert.SharedDownIdeal.nD Cert.SharedDownIdeal.τ).loc Cert.SharedDownIdeal.main_arg1) = m ((c.tc : Thread Cert.SharedDownIdeal.nD Cert.SharedDownIdeal.τ).loc Cert.SharedDownIdeal.main_arg1)
      ∧ r.2.mem ((c.tc : Thread Cert.SharedDownIdeal.nD Cert.SharedDownIdeal.τ).loc Cert.SharedDownIdeal.main_arg2) = m ((c.tc : Thread Cert.SharedDownIdeal.nD Cert.SharedDownIdeal.τ).loc Cert.SharedDownIdeal.main_arg2)
      ∧ r.2.mem ((c.tc : Thread Cert.SharedDownIdeal.nD Cert.SharedDownIdeal.τ).loc Cert.SharedDownIdeal.main_arg3) = m ((c.tc : Thread Cert.SharedDownIdeal.nD Cert.SharedDownIdeal.τ).loc Cert.SharedDownIdeal.main_arg3))
      ∧ r.2.sem = fun _ => 0)

def quiescent_SharedDownRefIdeal [hSharedDownRefIdeal : Cert.SharedDownRefIdeal.Facts] : Prop :=
  ∀ (m : (ℓ : Loc Cert.SharedDownRefIdeal.nD Cert.SharedDownRefIdeal.τ Cert.SharedDownRefIdeal.sig) → Buf (Elt Ideal) ℓ) (g : Dev Cert.SharedDownRefIdeal.nD → PrngReg), Pre_SharedDownRefIdeal m →
    θ_run (Cert.SharedDownRefIdeal.defs (F := Ideal)) (onTc (τ := Cert.SharedDownRefIdeal.τ) (Cert.SharedDownRefIdeal.main (F := Ideal))) ⟨m, fun _ => 0, g⟩ (fun r => (∀ c : Dev Cert.SharedDownRefIdeal.nD,
      r.2.mem ((c.tc : Thread Cert.SharedDownRefIdeal.nD Cert.SharedDownRefIdeal.τ).loc Cert.SharedDownRefIdeal.main_arg0) = m ((c.tc : Thread Cert.SharedDownRefIdeal.nD Cert.SharedDownRefIdeal.τ).loc Cert.SharedDownRefIdeal.main_arg0)
      ∧ r.2.mem ((c.tc : Thread Cert.SharedDownRefIdeal.nD Cert.SharedDownRefIdeal.τ).loc Cert.SharedDownRefIdeal.main_arg1) = m ((c.tc : Thread Cert.SharedDownRefIdeal.nD Cert.SharedDownRefIdeal.τ).loc Cert.SharedDownRefIdeal.main_arg1)
      ∧ r.2.mem ((c.tc : Thread Cert.SharedDownRefIdeal.nD Cert.SharedDownRefIdeal.τ).loc Cert.SharedDownRefIdeal.main_arg2) = m ((c.tc : Thread Cert.SharedDownRefIdeal.nD Cert.SharedDownRefIdeal.τ).loc Cert.SharedDownRefIdeal.main_arg2)
      ∧ r.2.mem ((c.tc : Thread Cert.SharedDownRefIdeal.nD Cert.SharedDownRefIdeal.τ).loc Cert.SharedDownRefIdeal.main_arg3) = m ((c.tc : Thread Cert.SharedDownRefIdeal.nD Cert.SharedDownRefIdeal.τ).loc Cert.SharedDownRefIdeal.main_arg3))
      ∧ r.2.sem = fun _ => 0)

def quiescent_Experts [hExperts : Cert.Experts.Facts] [hPre_tables_ok : Cert.Pre_tables_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tables_ok [hExpertsRefIdeal : Cert.ExpertsRefIdeal.Facts] [hPre_tables_ok : Cert.Pre_tables_ok.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_ok m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_NatQkv [hNatQkv : Cert.NatQkv.Facts] : Prop :=
  ∀ (m : (ℓ : Loc Cert.NatQkv.nD Cert.NatQkv.τ Cert.NatQkv.sig) → Buf (Elt Bits) ℓ) (g : Dev Cert.NatQkv.nD → PrngReg), Pre_NatQkv m →
    θ_run (Cert.NatQkv.defs (F := Bits)) (onTc (τ := Cert.NatQkv.τ) (Cert.NatQkv.main (F := Bits))) ⟨m, fun _ => 0, g⟩ (fun r => (∀ c : Dev Cert.NatQkv.nD,
      r.2.mem ((c.tc : Thread Cert.NatQkv.nD Cert.NatQkv.τ).loc Cert.NatQkv.main_arg0) = m ((c.tc : Thread Cert.NatQkv.nD Cert.NatQkv.τ).loc Cert.NatQkv.main_arg0)
      ∧ r.2.mem ((c.tc : Thread Cert.NatQkv.nD Cert.NatQkv.τ).loc Cert.NatQkv.main_arg1) = m ((c.tc : Thread Cert.NatQkv.nD Cert.NatQkv.τ).loc Cert.NatQkv.main_arg1)
      ∧ r.2.mem ((c.tc : Thread Cert.NatQkv.nD Cert.NatQkv.τ).loc Cert.NatQkv.main_arg2) = m ((c.tc : Thread Cert.NatQkv.nD Cert.NatQkv.τ).loc Cert.NatQkv.main_arg2)
      ∧ r.2.mem ((c.tc : Thread Cert.NatQkv.nD Cert.NatQkv.τ).loc Cert.NatQkv.main_arg3) = m ((c.tc : Thread Cert.NatQkv.nD Cert.NatQkv.τ).loc Cert.NatQkv.main_arg3)
      ∧ r.2.mem ((c.tc : Thread Cert.NatQkv.nD Cert.NatQkv.τ).loc Cert.NatQkv.main_arg4) = m ((c.tc : Thread Cert.NatQkv.nD Cert.NatQkv.τ).loc Cert.NatQkv.main_arg4)
      ∧ r.2.mem ((c.tc : Thread Cert.NatQkv.nD Cert.NatQkv.τ).loc Cert.NatQkv.main_arg5) = m ((c.tc : Thread Cert.NatQkv.nD Cert.NatQkv.τ).loc Cert.NatQkv.main_arg5))
      ∧ r.2.sem = fun _ => 0)

def quiescent_NatQkvIdeal [hNatQkvIdeal : Cert.NatQkvIdeal.Facts] : Prop :=
  ∀ (m : (ℓ : Loc Cert.NatQkvIdeal.nD Cert.NatQkvIdeal.τ Cert.NatQkvIdeal.sig) → Buf (Elt Ideal) ℓ) (g : Dev Cert.NatQkvIdeal.nD → PrngReg), Pre_NatQkvIdeal m →
    θ_run (Cert.NatQkvIdeal.defs (F := Ideal)) (onTc (τ := Cert.NatQkvIdeal.τ) (Cert.NatQkvIdeal.main (F := Ideal))) ⟨m, fun _ => 0, g⟩ (fun r => (∀ c : Dev Cert.NatQkvIdeal.nD,
      r.2.mem ((c.tc : Thread Cert.NatQkvIdeal.nD Cert.NatQkvIdeal.τ).loc Cert.NatQkvIdeal.main_arg0) = m ((c.tc : Thread Cert.NatQkvIdeal.nD Cert.NatQkvIdeal.τ).loc Cert.NatQkvIdeal.main_arg0)
      ∧ r.2.mem ((c.tc : Thread Cert.NatQkvIdeal.nD Cert.NatQkvIdeal.τ).loc Cert.NatQkvIdeal.main_arg1) = m ((c.tc : Thread Cert.NatQkvIdeal.nD Cert.NatQkvIdeal.τ).loc Cert.NatQkvIdeal.main_arg1)
      ∧ r.2.mem ((c.tc : Thread Cert.NatQkvIdeal.nD Cert.NatQkvIdeal.τ).loc Cert.NatQkvIdeal.main_arg2) = m ((c.tc : Thread Cert.NatQkvIdeal.nD Cert.NatQkvIdeal.τ).loc Cert.NatQkvIdeal.main_arg2)
      ∧ r.2.mem ((c.tc : Thread Cert.NatQkvIdeal.nD Cert.NatQkvIdeal.τ).loc Cert.NatQkvIdeal.main_arg3) = m ((c.tc : Thread Cert.NatQkvIdeal.nD Cert.NatQkvIdeal.τ).loc Cert.NatQkvIdeal.main_arg3)
      ∧ r.2.mem ((c.tc : Thread Cert.NatQkvIdeal.nD Cert.NatQkvIdeal.τ).loc Cert.NatQkvIdeal.main_arg4) = m ((c.tc : Thread Cert.NatQkvIdeal.nD Cert.NatQkvIdeal.τ).loc Cert.NatQkvIdeal.main_arg4)
      ∧ r.2.mem ((c.tc : Thread Cert.NatQkvIdeal.nD Cert.NatQkvIdeal.τ).loc Cert.NatQkvIdeal.main_arg5) = m ((c.tc : Thread Cert.NatQkvIdeal.nD Cert.NatQkvIdeal.τ).loc Cert.NatQkvIdeal.main_arg5))
      ∧ r.2.sem = fun _ => 0)

def quiescent_NatQkvRefIdeal [hNatQkvRefIdeal : Cert.NatQkvRefIdeal.Facts] : Prop :=
  ∀ (m : (ℓ : Loc Cert.NatQkvRefIdeal.nD Cert.NatQkvRefIdeal.τ Cert.NatQkvRefIdeal.sig) → Buf (Elt Ideal) ℓ) (g : Dev Cert.NatQkvRefIdeal.nD → PrngReg), Pre_NatQkvRefIdeal m →
    θ_run (Cert.NatQkvRefIdeal.defs (F := Ideal)) (onTc (τ := Cert.NatQkvRefIdeal.τ) (Cert.NatQkvRefIdeal.main (F := Ideal))) ⟨m, fun _ => 0, g⟩ (fun r => (∀ c : Dev Cert.NatQkvRefIdeal.nD,
      r.2.mem ((c.tc : Thread Cert.NatQkvRefIdeal.nD Cert.NatQkvRefIdeal.τ).loc Cert.NatQkvRefIdeal.main_arg0) = m ((c.tc : Thread Cert.NatQkvRefIdeal.nD Cert.NatQkvRefIdeal.τ).loc Cert.NatQkvRefIdeal.main_arg0)
      ∧ r.2.mem ((c.tc : Thread Cert.NatQkvRefIdeal.nD Cert.NatQkvRefIdeal.τ).loc Cert.NatQkvRefIdeal.main_arg1) = m ((c.tc : Thread Cert.NatQkvRefIdeal.nD Cert.NatQkvRefIdeal.τ).loc Cert.NatQkvRefIdeal.main_arg1)
      ∧ r.2.mem ((c.tc : Thread Cert.NatQkvRefIdeal.nD Cert.NatQkvRefIdeal.τ).loc Cert.NatQkvRefIdeal.main_arg2) = m ((c.tc : Thread Cert.NatQkvRefIdeal.nD Cert.NatQkvRefIdeal.τ).loc Cert.NatQkvRefIdeal.main_arg2)
      ∧ r.2.mem ((c.tc : Thread Cert.NatQkvRefIdeal.nD Cert.NatQkvRefIdeal.τ).loc Cert.NatQkvRefIdeal.main_arg3) = m ((c.tc : Thread Cert.NatQkvRefIdeal.nD Cert.NatQkvRefIdeal.τ).loc Cert.NatQkvRefIdeal.main_arg3)
      ∧ r.2.mem ((c.tc : Thread Cert.NatQkvRefIdeal.nD Cert.NatQkvRefIdeal.τ).loc Cert.NatQkvRefIdeal.main_arg4) = m ((c.tc : Thread Cert.NatQkvRefIdeal.nD Cert.NatQkvRefIdeal.τ).loc Cert.NatQkvRefIdeal.main_arg4)
      ∧ r.2.mem ((c.tc : Thread Cert.NatQkvRefIdeal.nD Cert.NatQkvRefIdeal.τ).loc Cert.NatQkvRefIdeal.main_arg5) = m ((c.tc : Thread Cert.NatQkvRefIdeal.nD Cert.NatQkvRefIdeal.τ).loc Cert.NatQkvRefIdeal.main_arg5))
      ∧ r.2.sem = fun _ => 0)

def quiescent_SwaQkv [hSwaQkv : Cert.SwaQkv.Facts] : Prop :=
  ∀ (m : (ℓ : Loc Cert.SwaQkv.nD Cert.SwaQkv.τ Cert.SwaQkv.sig) → Buf (Elt Bits) ℓ) (g : Dev Cert.SwaQkv.nD → PrngReg), Pre_SwaQkv m →
    θ_run (Cert.SwaQkv.defs (F := Bits)) (onTc (τ := Cert.SwaQkv.τ) (Cert.SwaQkv.main (F := Bits))) ⟨m, fun _ => 0, g⟩ (fun r => (∀ c : Dev Cert.SwaQkv.nD,
      r.2.mem ((c.tc : Thread Cert.SwaQkv.nD Cert.SwaQkv.τ).loc Cert.SwaQkv.main_arg0) = m ((c.tc : Thread Cert.SwaQkv.nD Cert.SwaQkv.τ).loc Cert.SwaQkv.main_arg0)
      ∧ r.2.mem ((c.tc : Thread Cert.SwaQkv.nD Cert.SwaQkv.τ).loc Cert.SwaQkv.main_arg1) = m ((c.tc : Thread Cert.SwaQkv.nD Cert.SwaQkv.τ).loc Cert.SwaQkv.main_arg1)
      ∧ r.2.mem ((c.tc : Thread Cert.SwaQkv.nD Cert.SwaQkv.τ).loc Cert.SwaQkv.main_arg2) = m ((c.tc : Thread Cert.SwaQkv.nD Cert.SwaQkv.τ).loc Cert.SwaQkv.main_arg2)
      ∧ r.2.mem ((c.tc : Thread Cert.SwaQkv.nD Cert.SwaQkv.τ).loc Cert.SwaQkv.main_arg3) = m ((c.tc : Thread Cert.SwaQkv.nD Cert.SwaQkv.τ).loc Cert.SwaQkv.main_arg3)
      ∧ r.2.mem ((c.tc : Thread Cert.SwaQkv.nD Cert.SwaQkv.τ).loc Cert.SwaQkv.main_arg4) = m ((c.tc : Thread Cert.SwaQkv.nD Cert.SwaQkv.τ).loc Cert.SwaQkv.main_arg4)
      ∧ r.2.mem ((c.tc : Thread Cert.SwaQkv.nD Cert.SwaQkv.τ).loc Cert.SwaQkv.main_arg5) = m ((c.tc : Thread Cert.SwaQkv.nD Cert.SwaQkv.τ).loc Cert.SwaQkv.main_arg5)
      ∧ r.2.mem ((c.tc : Thread Cert.SwaQkv.nD Cert.SwaQkv.τ).loc Cert.SwaQkv.main_arg6) = m ((c.tc : Thread Cert.SwaQkv.nD Cert.SwaQkv.τ).loc Cert.SwaQkv.main_arg6)
      ∧ r.2.mem ((c.tc : Thread Cert.SwaQkv.nD Cert.SwaQkv.τ).loc Cert.SwaQkv.main_arg7) = m ((c.tc : Thread Cert.SwaQkv.nD Cert.SwaQkv.τ).loc Cert.SwaQkv.main_arg7))
      ∧ r.2.sem = fun _ => 0)

def quiescent_SwaQkvIdeal [hSwaQkvIdeal : Cert.SwaQkvIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg), Pre_SwaQkvIdeal m →
    θ_run (Cert.SwaQkvIdeal.defs (F := Ideal)) (onTc (τ := Cert.SwaQkvIdeal.τ) (Cert.SwaQkvIdeal.main (F := Ideal))) ⟨m, fun _ => 0, g⟩ (fun r => (∀ c : Dev Cert.SwaQkvIdeal.nD,
      r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
      ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1)
      ∧ r.2.mem ((c.tc : Thread Cert.SwaQkvIdeal.nD Cert.SwaQkvIdeal.τ).loc Cert.SwaQkvIdeal.main_arg2) = m ((c.tc : Thread Cert.SwaQkvIdeal.nD Cert.SwaQkvIdeal.τ).loc Cert.SwaQkvIdeal.main_arg2)
      ∧ r.2.mem ((c.tc : Thread Cert.SwaQkvIdeal.nD Cert.SwaQkvIdeal.τ).loc Cert.SwaQkvIdeal.main_arg3) = m ((c.tc : Thread Cert.SwaQkvIdeal.nD Cert.SwaQkvIdeal.τ).loc Cert.SwaQkvIdeal.main_arg3)
      ∧ r.2.mem ((c.tc : Thread Cert.SwaQkvIdeal.nD Cert.SwaQkvIdeal.τ).loc Cert.SwaQkvIdeal.main_arg4) = m ((c.tc : Thread Cert.SwaQkvIdeal.nD Cert.SwaQkvIdeal.τ).loc Cert.SwaQkvIdeal.main_arg4)
      ∧ r.2.mem ((c.tc : Thread Cert.SwaQkvIdeal.nD Cert.SwaQkvIdeal.τ).loc Cert.SwaQkvIdeal.main_arg5) = m ((c.tc : Thread Cert.SwaQkvIdeal.nD Cert.SwaQkvIdeal.τ).loc Cert.SwaQkvIdeal.main_arg5)
      ∧ r.2.mem ((c.tc : Thread Cert.SwaQkvIdeal.nD Cert.SwaQkvIdeal.τ).loc Cert.SwaQkvIdeal.main_arg6) = m ((c.tc : Thread Cert.SwaQkvIdeal.nD Cert.SwaQkvIdeal.τ).loc Cert.SwaQkvIdeal.main_arg6)
      ∧ r.2.mem ((c.tc : Thread Cert.SwaQkvIdeal.nD Cert.SwaQkvIdeal.τ).loc Cert.SwaQkvIdeal.main_arg7) = m ((c.tc : Thread Cert.SwaQkvIdeal.nD Cert.SwaQkvIdeal.τ).loc Cert.SwaQkvIdeal.main_arg7))
      ∧ r.2.sem = fun _ => 0)

def quiescent_SwaQkvRefIdeal [hSwaQkvRefIdeal : Cert.SwaQkvRefIdeal.Facts] : Prop :=
  ∀ (m : (ℓ : Loc Cert.SwaQkvRefIdeal.nD Cert.SwaQkvRefIdeal.τ Cert.SwaQkvRefIdeal.sig) → Buf (Elt Ideal) ℓ) (g : Dev Cert.SwaQkvRefIdeal.nD → PrngReg), Pre_SwaQkvRefIdeal m →
    θ_run (Cert.SwaQkvRefIdeal.defs (F := Ideal)) (onTc (τ := Cert.SwaQkvRefIdeal.τ) (Cert.SwaQkvRefIdeal.main (F := Ideal))) ⟨m, fun _ => 0, g⟩ (fun r => (∀ c : Dev Cert.SwaQkvRefIdeal.nD,
      r.2.mem ((c.tc : Thread Cert.SwaQkvRefIdeal.nD Cert.SwaQkvRefIdeal.τ).loc Cert.SwaQkvRefIdeal.main_arg0) = m ((c.tc : Thread Cert.SwaQkvRefIdeal.nD Cert.SwaQkvRefIdeal.τ).loc Cert.SwaQkvRefIdeal.main_arg0)
      ∧ r.2.mem ((c.tc : Thread Cert.SwaQkvRefIdeal.nD Cert.SwaQkvRefIdeal.τ).loc Cert.SwaQkvRefIdeal.main_arg1) = m ((c.tc : Thread Cert.SwaQkvRefIdeal.nD Cert.SwaQkvRefIdeal.τ).loc Cert.SwaQkvRefIdeal.main_arg1)
      ∧ r.2.mem ((c.tc : Thread Cert.SwaQkvRefIdeal.nD Cert.SwaQkvRefIdeal.τ).loc Cert.SwaQkvRefIdeal.main_arg2) = m ((c.tc : Thread Cert.SwaQkvRefIdeal.nD Cert.SwaQkvRefIdeal.τ).loc Cert.SwaQkvRefIdeal.main_arg2)
      ∧ r.2.mem ((c.tc : Thread Cert.SwaQkvRefIdeal.nD Cert.SwaQkvRefIdeal.τ).loc Cert.SwaQkvRefIdeal.main_arg3) = m ((c.tc : Thread Cert.SwaQkvRefIdeal.nD Cert.SwaQkvRefIdeal.τ).loc Cert.SwaQkvRefIdeal.main_arg3)
      ∧ r.2.mem ((c.tc : Thread Cert.SwaQkvRefIdeal.nD Cert.SwaQkvRefIdeal.τ).loc Cert.SwaQkvRefIdeal.main_arg4) = m ((c.tc : Thread Cert.SwaQkvRefIdeal.nD Cert.SwaQkvRefIdeal.τ).loc Cert.SwaQkvRefIdeal.main_arg4)
      ∧ r.2.mem ((c.tc : Thread Cert.SwaQkvRefIdeal.nD Cert.SwaQkvRefIdeal.τ).loc Cert.SwaQkvRefIdeal.main_arg5) = m ((c.tc : Thread Cert.SwaQkvRefIdeal.nD Cert.SwaQkvRefIdeal.τ).loc Cert.SwaQkvRefIdeal.main_arg5)
      ∧ r.2.mem ((c.tc : Thread Cert.SwaQkvRefIdeal.nD Cert.SwaQkvRefIdeal.τ).loc Cert.SwaQkvRefIdeal.main_arg6) = m ((c.tc : Thread Cert.SwaQkvRefIdeal.nD Cert.SwaQkvRefIdeal.τ).loc Cert.SwaQkvRefIdeal.main_arg6)
      ∧ r.2.mem ((c.tc : Thread Cert.SwaQkvRefIdeal.nD Cert.SwaQkvRefIdeal.τ).loc Cert.SwaQkvRefIdeal.main_arg7) = m ((c.tc : Thread Cert.SwaQkvRefIdeal.nD Cert.SwaQkvRefIdeal.τ).loc Cert.SwaQkvRefIdeal.main_arg7))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite [hSwaIdeal : Cert.SwaIdeal.Facts] [hSwaRefIdeal : Cert.SwaRefIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v54) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v20) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_SharedUp_SharedUpIdeal : Prop :=
  True

def algebraic_SharedUpIdeal_SharedUpRefIdeal [hSharedUpIdeal : Cert.SharedUpIdeal.Facts] [hSharedUpRefIdeal : Cert.SharedUpRefIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg)
    (m' : (ℓ : Loc Cert.SharedUpRefIdeal.nD Cert.SharedUpRefIdeal.τ Cert.SharedUpRefIdeal.sig) → Buf (Elt Ideal) ℓ) (g' : Dev Cert.SharedUpRefIdeal.nD → PrngReg), Pre_SharedUpIdeal m →
    (∀ c : Dev Cert.SharedUpIdeal.nD,
      m' ((c.tc : Thread Cert.SharedUpRefIdeal.nD Cert.SharedUpRefIdeal.τ).loc Cert.SharedUpRefIdeal.main_arg0) = m ((c.tc : Thread Cert.SharedUpIdeal.nD Cert.SharedUpIdeal.τ).loc Cert.SharedUpIdeal.main_arg0)
      ∧ m' ((c.tc : Thread Cert.SharedUpRefIdeal.nD Cert.SharedUpRefIdeal.τ).loc Cert.SharedUpRefIdeal.main_arg1) = m ((c.tc : Thread Cert.SharedUpIdeal.nD Cert.SharedUpIdeal.τ).loc Cert.SharedUpIdeal.main_arg1)
      ∧ m' ((c.tc : Thread Cert.SharedUpRefIdeal.nD Cert.SharedUpRefIdeal.τ).loc Cert.SharedUpRefIdeal.main_arg2) = m ((c.tc : Thread Cert.SharedUpIdeal.nD Cert.SharedUpIdeal.τ).loc Cert.SharedUpIdeal.main_arg2)) →
    ∃ (v0 : (c : Dev Cert.SharedUpIdeal.nD) → Buf (Elt Ideal) ((c.tc : Thread Cert.SharedUpIdeal.nD Cert.SharedUpIdeal.τ).loc Cert.SharedUpIdeal.main_v2)),
      θ_run (Cert.SharedUpIdeal.defs (F := Ideal)) (onTc (τ := Cert.SharedUpIdeal.τ) (Cert.SharedUpIdeal.main (F := Ideal))) ⟨m, fun _ => 0, g⟩ (fun r => ∀ c : Dev Cert.SharedUpIdeal.nD,
          r.2.mem ((c.tc : Thread Cert.SharedUpIdeal.nD Cert.SharedUpIdeal.τ).loc Cert.SharedUpIdeal.main_v2) = v0 c
          ∧ r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
          ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
          ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2))
      ∧ θ_run (Cert.SharedUpRefIdeal.defs (F := Ideal)) (onTc (τ := Cert.SharedUpRefIdeal.τ) (Cert.SharedUpRefIdeal.main (F := Ideal))) ⟨m', fun _ => 0, g'⟩ (fun r => ∀ c : Dev Cert.SharedUpRefIdeal.nD,
          r.2.mem ((c.tc : Thread Cert.SharedUpRefIdeal.nD Cert.SharedUpRefIdeal.τ).loc Cert.SharedUpRefIdeal.main_v5) = v0 c
          ∧ r.2.mem ((c.tc : Thread Cert.SharedUpRefIdeal.nD Cert.SharedUpRefIdeal.τ).loc Cert.SharedUpRefIdeal.main_arg0) = m' ((c.tc : Thread Cert.SharedUpRefIdeal.nD Cert.SharedUpRefIdeal.τ).loc Cert.SharedUpRefIdeal.main_arg0)
          ∧ r.2.mem ((c.tc : Thread Cert.SharedUpRefIdeal.nD Cert.SharedUpRefIdeal.τ).loc Cert.SharedUpRefIdeal.main_arg1) = m' ((c.tc : Thread Cert.SharedUpRefIdeal.nD Cert.SharedUpRefIdeal.τ).loc Cert.SharedUpRefIdeal.main_arg1)
          ∧ r.2.mem ((c.tc : Thread Cert.SharedUpRefIdeal.nD Cert.SharedUpRefIdeal.τ).loc Cert.SharedUpRefIdeal.main_arg2) = m' ((c.tc : Thread Cert.SharedUpRefIdeal.nD Cert.SharedUpRefIdeal.τ).loc Cert.SharedUpRefIdeal.main_arg2))

def preserves_SharedDown_SharedDownIdeal : Prop :=
  True

def algebraic_SharedDownIdeal_SharedDownRefIdeal [hSharedDownIdeal : Cert.SharedDownIdeal.Facts] [hSharedDownRefIdeal : Cert.SharedDownRefIdeal.Facts] : Prop :=
  ∀ (m : (ℓ : Loc Cert.SharedDownIdeal.nD Cert.SharedDownIdeal.τ Cert.SharedDownIdeal.sig) → Buf (Elt Ideal) ℓ) (g : Dev Cert.SharedDownIdeal.nD → PrngReg)
    (m' : (ℓ : Loc Cert.SharedDownRefIdeal.nD Cert.SharedDownRefIdeal.τ Cert.SharedDownRefIdeal.sig) → Buf (Elt Ideal) ℓ) (g' : Dev Cert.SharedDownRefIdeal.nD → PrngReg), Pre_SharedDownIdeal m →
    (∀ c : Dev Cert.SharedDownIdeal.nD,
      m' ((c.tc : Thread Cert.SharedDownRefIdeal.nD Cert.SharedDownRefIdeal.τ).loc Cert.SharedDownRefIdeal.main_arg0) = m ((c.tc : Thread Cert.SharedDownIdeal.nD Cert.SharedDownIdeal.τ).loc Cert.SharedDownIdeal.main_arg0)
      ∧ m' ((c.tc : Thread Cert.SharedDownRefIdeal.nD Cert.SharedDownRefIdeal.τ).loc Cert.SharedDownRefIdeal.main_arg1) = m ((c.tc : Thread Cert.SharedDownIdeal.nD Cert.SharedDownIdeal.τ).loc Cert.SharedDownIdeal.main_arg1)
      ∧ m' ((c.tc : Thread Cert.SharedDownRefIdeal.nD Cert.SharedDownRefIdeal.τ).loc Cert.SharedDownRefIdeal.main_arg2) = m ((c.tc : Thread Cert.SharedDownIdeal.nD Cert.SharedDownIdeal.τ).loc Cert.SharedDownIdeal.main_arg2)
      ∧ m' ((c.tc : Thread Cert.SharedDownRefIdeal.nD Cert.SharedDownRefIdeal.τ).loc Cert.SharedDownRefIdeal.main_arg3) = m ((c.tc : Thread Cert.SharedDownIdeal.nD Cert.SharedDownIdeal.τ).loc Cert.SharedDownIdeal.main_arg3)) →
    ∃ (v0 : (c : Dev Cert.SharedDownIdeal.nD) → Buf (Elt Ideal) ((c.tc : Thread Cert.SharedDownIdeal.nD Cert.SharedDownIdeal.τ).loc Cert.SharedDownIdeal.main_v1)),
      θ_run (Cert.SharedDownIdeal.defs (F := Ideal)) (onTc (τ := Cert.SharedDownIdeal.τ) (Cert.SharedDownIdeal.main (F := Ideal))) ⟨m, fun _ => 0, g⟩ (fun r => ∀ c : Dev Cert.SharedDownIdeal.nD,
          r.2.mem ((c.tc : Thread Cert.SharedDownIdeal.nD Cert.SharedDownIdeal.τ).loc Cert.SharedDownIdeal.main_v1) = v0 c
          ∧ r.2.mem ((c.tc : Thread Cert.SharedDownIdeal.nD Cert.SharedDownIdeal.τ).loc Cert.SharedDownIdeal.main_arg0) = m ((c.tc : Thread Cert.SharedDownIdeal.nD Cert.SharedDownIdeal.τ).loc Cert.SharedDownIdeal.main_arg0)
          ∧ r.2.mem ((c.tc : Thread Cert.SharedDownIdeal.nD Cert.SharedDownIdeal.τ).loc Cert.SharedDownIdeal.main_arg1) = m ((c.tc : Thread Cert.SharedDownIdeal.nD Cert.SharedDownIdeal.τ).loc Cert.SharedDownIdeal.main_arg1)
          ∧ r.2.mem ((c.tc : Thread Cert.SharedDownIdeal.nD Cert.SharedDownIdeal.τ).loc Cert.SharedDownIdeal.main_arg2) = m ((c.tc : Thread Cert.SharedDownIdeal.nD Cert.SharedDownIdeal.τ).loc Cert.SharedDownIdeal.main_arg2)
          ∧ r.2.mem ((c.tc : Thread Cert.SharedDownIdeal.nD Cert.SharedDownIdeal.τ).loc Cert.SharedDownIdeal.main_arg3) = m ((c.tc : Thread Cert.SharedDownIdeal.nD Cert.SharedDownIdeal.τ).loc Cert.SharedDownIdeal.main_arg3))
      ∧ θ_run (Cert.SharedDownRefIdeal.defs (F := Ideal)) (onTc (τ := Cert.SharedDownRefIdeal.τ) (Cert.SharedDownRefIdeal.main (F := Ideal))) ⟨m', fun _ => 0, g'⟩ (fun r => ∀ c : Dev Cert.SharedDownRefIdeal.nD,
          r.2.mem ((c.tc : Thread Cert.SharedDownRefIdeal.nD Cert.SharedDownRefIdeal.τ).loc Cert.SharedDownRefIdeal.main_v20) = v0 c
          ∧ r.2.mem ((c.tc : Thread Cert.SharedDownRefIdeal.nD Cert.SharedDownRefIdeal.τ).loc Cert.SharedDownRefIdeal.main_arg0) = m' ((c.tc : Thread Cert.SharedDownRefIdeal.nD Cert.SharedDownRefIdeal.τ).loc Cert.SharedDownRefIdeal.main_arg0)
          ∧ r.2.mem ((c.tc : Thread Cert.SharedDownRefIdeal.nD Cert.SharedDownRefIdeal.τ).loc Cert.SharedDownRefIdeal.main_arg1) = m' ((c.tc : Thread Cert.SharedDownRefIdeal.nD Cert.SharedDownRefIdeal.τ).loc Cert.SharedDownRefIdeal.main_arg1)
          ∧ r.2.mem ((c.tc : Thread Cert.SharedDownRefIdeal.nD Cert.SharedDownRefIdeal.τ).loc Cert.SharedDownRefIdeal.main_arg2) = m' ((c.tc : Thread Cert.SharedDownRefIdeal.nD Cert.SharedDownRefIdeal.τ).loc Cert.SharedDownRefIdeal.main_arg2)
          ∧ r.2.mem ((c.tc : Thread Cert.SharedDownRefIdeal.nD Cert.SharedDownRefIdeal.τ).loc Cert.SharedDownRefIdeal.main_arg3) = m' ((c.tc : Thread Cert.SharedDownRefIdeal.nD Cert.SharedDownRefIdeal.τ).loc Cert.SharedDownRefIdeal.main_arg3))

def preserves_Experts_ExpertsIdeal : Prop :=
  True

def algebraic_ExpertsIdeal_ExpertsRefIdeal_on_in_use [hExpertsIdeal : Cert.ExpertsIdeal.Facts] [hExpertsRefIdeal : Cert.ExpertsRefIdeal.Facts] [hPre_tables_ok : Cert.Pre_tables_ok.Facts] [hOn_in_use : Cert.On_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![81920, 4096]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![81920, 4096]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsRefIdeal.nD Cert.ExpertsRefIdeal.τ).loc Cert.ExpertsRefIdeal.main_v21) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_NatQkv_NatQkvIdeal : Prop :=
  True

def algebraic_NatQkvIdeal_NatQkvRefIdeal [hNatQkvIdeal : Cert.NatQkvIdeal.Facts] [hNatQkvRefIdeal : Cert.NatQkvRefIdeal.Facts] : Prop :=
  ∀ (m : (ℓ : Loc Cert.NatQkvIdeal.nD Cert.NatQkvIdeal.τ Cert.NatQkvIdeal.sig) → Buf (Elt Ideal) ℓ) (g : Dev Cert.NatQkvIdeal.nD → PrngReg)
    (m' : (ℓ : Loc Cert.NatQkvRefIdeal.nD Cert.NatQkvRefIdeal.τ Cert.NatQkvRefIdeal.sig) → Buf (Elt Ideal) ℓ) (g' : Dev Cert.NatQkvRefIdeal.nD → PrngReg), Pre_NatQkvIdeal m →
    (∀ c : Dev Cert.NatQkvIdeal.nD,
      m' ((c.tc : Thread Cert.NatQkvRefIdeal.nD Cert.NatQkvRefIdeal.τ).loc Cert.NatQkvRefIdeal.main_arg0) = m ((c.tc : Thread Cert.NatQkvIdeal.nD Cert.NatQkvIdeal.τ).loc Cert.NatQkvIdeal.main_arg0)
      ∧ m' ((c.tc : Thread Cert.NatQkvRefIdeal.nD Cert.NatQkvRefIdeal.τ).loc Cert.NatQkvRefIdeal.main_arg1) = m ((c.tc : Thread Cert.NatQkvIdeal.nD Cert.NatQkvIdeal.τ).loc Cert.NatQkvIdeal.main_arg1)
      ∧ m' ((c.tc : Thread Cert.NatQkvRefIdeal.nD Cert.NatQkvRefIdeal.τ).loc Cert.NatQkvRefIdeal.main_arg2) = m ((c.tc : Thread Cert.NatQkvIdeal.nD Cert.NatQkvIdeal.τ).loc Cert.NatQkvIdeal.main_arg2)
      ∧ m' ((c.tc : Thread Cert.NatQkvRefIdeal.nD Cert.NatQkvRefIdeal.τ).loc Cert.NatQkvRefIdeal.main_arg3) = m ((c.tc : Thread Cert.NatQkvIdeal.nD Cert.NatQkvIdeal.τ).loc Cert.NatQkvIdeal.main_arg3)
      ∧ m' ((c.tc : Thread Cert.NatQkvRefIdeal.nD Cert.NatQkvRefIdeal.τ).loc Cert.NatQkvRefIdeal.main_arg4) = m ((c.tc : Thread Cert.NatQkvIdeal.nD Cert.NatQkvIdeal.τ).loc Cert.NatQkvIdeal.main_arg4)
      ∧ m' ((c.tc : Thread Cert.NatQkvRefIdeal.nD Cert.NatQkvRefIdeal.τ).loc Cert.NatQkvRefIdeal.main_arg5) = m ((c.tc : Thread Cert.NatQkvIdeal.nD Cert.NatQkvIdeal.τ).loc Cert.NatQkvIdeal.main_arg5)) →
    ∃ (v0 : (c : Dev Cert.NatQkvIdeal.nD) → Buf (Elt Ideal) ((c.tc : Thread Cert.NatQkvIdeal.nD Cert.NatQkvIdeal.τ).loc Cert.NatQkvIdeal.main_v10)),
      θ_run (Cert.NatQkvIdeal.defs (F := Ideal)) (onTc (τ := Cert.NatQkvIdeal.τ) (Cert.NatQkvIdeal.main (F := Ideal))) ⟨m, fun _ => 0, g⟩ (fun r => ∀ c : Dev Cert.NatQkvIdeal.nD,
          r.2.mem ((c.tc : Thread Cert.NatQkvIdeal.nD Cert.NatQkvIdeal.τ).loc Cert.NatQkvIdeal.main_v10) = v0 c
          ∧ r.2.mem ((c.tc : Thread Cert.NatQkvIdeal.nD Cert.NatQkvIdeal.τ).loc Cert.NatQkvIdeal.main_arg0) = m ((c.tc : Thread Cert.NatQkvIdeal.nD Cert.NatQkvIdeal.τ).loc Cert.NatQkvIdeal.main_arg0)
          ∧ r.2.mem ((c.tc : Thread Cert.NatQkvIdeal.nD Cert.NatQkvIdeal.τ).loc Cert.NatQkvIdeal.main_arg1) = m ((c.tc : Thread Cert.NatQkvIdeal.nD Cert.NatQkvIdeal.τ).loc Cert.NatQkvIdeal.main_arg1)
          ∧ r.2.mem ((c.tc : Thread Cert.NatQkvIdeal.nD Cert.NatQkvIdeal.τ).loc Cert.NatQkvIdeal.main_arg2) = m ((c.tc : Thread Cert.NatQkvIdeal.nD Cert.NatQkvIdeal.τ).loc Cert.NatQkvIdeal.main_arg2)
          ∧ r.2.mem ((c.tc : Thread Cert.NatQkvIdeal.nD Cert.NatQkvIdeal.τ).loc Cert.NatQkvIdeal.main_arg3) = m ((c.tc : Thread Cert.NatQkvIdeal.nD Cert.NatQkvIdeal.τ).loc Cert.NatQkvIdeal.main_arg3)
          ∧ r.2.mem ((c.tc : Thread Cert.NatQkvIdeal.nD Cert.NatQkvIdeal.τ).loc Cert.NatQkvIdeal.main_arg4) = m ((c.tc : Thread Cert.NatQkvIdeal.nD Cert.NatQkvIdeal.τ).loc Cert.NatQkvIdeal.main_arg4)
          ∧ r.2.mem ((c.tc : Thread Cert.NatQkvIdeal.nD Cert.NatQkvIdeal.τ).loc Cert.NatQkvIdeal.main_arg5) = m ((c.tc : Thread Cert.NatQkvIdeal.nD Cert.NatQkvIdeal.τ).loc Cert.NatQkvIdeal.main_arg5))
      ∧ θ_run (Cert.NatQkvRefIdeal.defs (F := Ideal)) (onTc (τ := Cert.NatQkvRefIdeal.τ) (Cert.NatQkvRefIdeal.main (F := Ideal))) ⟨m', fun _ => 0, g'⟩ (fun r => ∀ c : Dev Cert.NatQkvRefIdeal.nD,
          r.2.mem ((c.tc : Thread Cert.NatQkvRefIdeal.nD Cert.NatQkvRefIdeal.τ).loc Cert.NatQkvRefIdeal.main_v36) = v0 c
          ∧ r.2.mem ((c.tc : Thread Cert.NatQkvRefIdeal.nD Cert.NatQkvRefIdeal.τ).loc Cert.NatQkvRefIdeal.main_arg0) = m' ((c.tc : Thread Cert.NatQkvRefIdeal.nD Cert.NatQkvRefIdeal.τ).loc Cert.NatQkvRefIdeal.main_arg0)
          ∧ r.2.mem ((c.tc : Thread Cert.NatQkvRefIdeal.nD Cert.NatQkvRefIdeal.τ).loc Cert.NatQkvRefIdeal.main_arg1) = m' ((c.tc : Thread Cert.NatQkvRefIdeal.nD Cert.NatQkvRefIdeal.τ).loc Cert.NatQkvRefIdeal.main_arg1)
          ∧ r.2.mem ((c.tc : Thread Cert.NatQkvRefIdeal.nD Cert.NatQkvRefIdeal.τ).loc Cert.NatQkvRefIdeal.main_arg2) = m' ((c.tc : Thread Cert.NatQkvRefIdeal.nD Cert.NatQkvRefIdeal.τ).loc Cert.NatQkvRefIdeal.main_arg2)
          ∧ r.2.mem ((c.tc : Thread Cert.NatQkvRefIdeal.nD Cert.NatQkvRefIdeal.τ).loc Cert.NatQkvRefIdeal.main_arg3) = m' ((c.tc : Thread Cert.NatQkvRefIdeal.nD Cert.NatQkvRefIdeal.τ).loc Cert.NatQkvRefIdeal.main_arg3)
          ∧ r.2.mem ((c.tc : Thread Cert.NatQkvRefIdeal.nD Cert.NatQkvRefIdeal.τ).loc Cert.NatQkvRefIdeal.main_arg4) = m' ((c.tc : Thread Cert.NatQkvRefIdeal.nD Cert.NatQkvRefIdeal.τ).loc Cert.NatQkvRefIdeal.main_arg4)
          ∧ r.2.mem ((c.tc : Thread Cert.NatQkvRefIdeal.nD Cert.NatQkvRefIdeal.τ).loc Cert.NatQkvRefIdeal.main_arg5) = m' ((c.tc : Thread Cert.NatQkvRefIdeal.nD Cert.NatQkvRefIdeal.τ).loc Cert.NatQkvRefIdeal.main_arg5))

def preserves_SwaQkv_SwaQkvIdeal : Prop :=
  True

def algebraic_SwaQkvIdeal_SwaQkvRefIdeal [hSwaQkvIdeal : Cert.SwaQkvIdeal.Facts] [hSwaQkvRefIdeal : Cert.SwaQkvRefIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg)
    (m' : (ℓ : Loc Cert.SwaQkvRefIdeal.nD Cert.SwaQkvRefIdeal.τ Cert.SwaQkvRefIdeal.sig) → Buf (Elt Ideal) ℓ) (g' : Dev Cert.SwaQkvRefIdeal.nD → PrngReg), Pre_SwaQkvIdeal m →
    (∀ c : Dev Cert.SwaQkvIdeal.nD,
      m' ((c.tc : Thread Cert.SwaQkvRefIdeal.nD Cert.SwaQkvRefIdeal.τ).loc Cert.SwaQkvRefIdeal.main_arg0) = m ((c.tc : Thread Cert.SwaQkvIdeal.nD Cert.SwaQkvIdeal.τ).loc Cert.SwaQkvIdeal.main_arg0)
      ∧ m' ((c.tc : Thread Cert.SwaQkvRefIdeal.nD Cert.SwaQkvRefIdeal.τ).loc Cert.SwaQkvRefIdeal.main_arg1) = m ((c.tc : Thread Cert.SwaQkvIdeal.nD Cert.SwaQkvIdeal.τ).loc Cert.SwaQkvIdeal.main_arg1)
      ∧ m' ((c.tc : Thread Cert.SwaQkvRefIdeal.nD Cert.SwaQkvRefIdeal.τ).loc Cert.SwaQkvRefIdeal.main_arg2) = m ((c.tc : Thread Cert.SwaQkvIdeal.nD Cert.SwaQkvIdeal.τ).loc Cert.SwaQkvIdeal.main_arg2)
      ∧ m' ((c.tc : Thread Cert.SwaQkvRefIdeal.nD Cert.SwaQkvRefIdeal.τ).loc Cert.SwaQkvRefIdeal.main_arg3) = m ((c.tc : Thread Cert.SwaQkvIdeal.nD Cert.SwaQkvIdeal.τ).loc Cert.SwaQkvIdeal.main_arg3)
      ∧ m' ((c.tc : Thread Cert.SwaQkvRefIdeal.nD Cert.SwaQkvRefIdeal.τ).loc Cert.SwaQkvRefIdeal.main_arg4) = m ((c.tc : Thread Cert.SwaQkvIdeal.nD Cert.SwaQkvIdeal.τ).loc Cert.SwaQkvIdeal.main_arg4)
      ∧ m' ((c.tc : Thread Cert.SwaQkvRefIdeal.nD Cert.SwaQkvRefIdeal.τ).loc Cert.SwaQkvRefIdeal.main_arg5) = m ((c.tc : Thread Cert.SwaQkvIdeal.nD Cert.SwaQkvIdeal.τ).loc Cert.SwaQkvIdeal.main_arg5)
      ∧ m' ((c.tc : Thread Cert.SwaQkvRefIdeal.nD Cert.SwaQkvRefIdeal.τ).loc Cert.SwaQkvRefIdeal.main_arg6) = m ((c.tc : Thread Cert.SwaQkvIdeal.nD Cert.SwaQkvIdeal.τ).loc Cert.SwaQkvIdeal.main_arg6)
      ∧ m' ((c.tc : Thread Cert.SwaQkvRefIdeal.nD Cert.SwaQkvRefIdeal.τ).loc Cert.SwaQkvRefIdeal.main_arg7) = m ((c.tc : Thread Cert.SwaQkvIdeal.nD Cert.SwaQkvIdeal.τ).loc Cert.SwaQkvIdeal.main_arg7)) →
    ∃ (v0 : (c : Dev Cert.SwaQkvIdeal.nD) → Buf (Elt Ideal) ((c.tc : Thread Cert.SwaQkvIdeal.nD Cert.SwaQkvIdeal.τ).loc Cert.SwaQkvIdeal.main_v14)),
      θ_run (Cert.SwaQkvIdeal.defs (F := Ideal)) (onTc (τ := Cert.SwaQkvIdeal.τ) (Cert.SwaQkvIdeal.main (F := Ideal))) ⟨m, fun _ => 0, g⟩ (fun r => ∀ c : Dev Cert.SwaQkvIdeal.nD,
          r.2.mem ((c.tc : Thread Cert.SwaQkvIdeal.nD Cert.SwaQkvIdeal.τ).loc Cert.SwaQkvIdeal.main_v14) = v0 c
          ∧ r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
          ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1)
          ∧ r.2.mem ((c.tc : Thread Cert.SwaQkvIdeal.nD Cert.SwaQkvIdeal.τ).loc Cert.SwaQkvIdeal.main_arg2) = m ((c.tc : Thread Cert.SwaQkvIdeal.nD Cert.SwaQkvIdeal.τ).loc Cert.SwaQkvIdeal.main_arg2)
          ∧ r.2.mem ((c.tc : Thread Cert.SwaQkvIdeal.nD Cert.SwaQkvIdeal.τ).loc Cert.SwaQkvIdeal.main_arg3) = m ((c.tc : Thread Cert.SwaQkvIdeal.nD Cert.SwaQkvIdeal.τ).loc Cert.SwaQkvIdeal.main_arg3)
          ∧ r.2.mem ((c.tc : Thread Cert.SwaQkvIdeal.nD Cert.SwaQkvIdeal.τ).loc Cert.SwaQkvIdeal.main_arg4) = m ((c.tc : Thread Cert.SwaQkvIdeal.nD Cert.SwaQkvIdeal.τ).loc Cert.SwaQkvIdeal.main_arg4)
          ∧ r.2.mem ((c.tc : Thread Cert.SwaQkvIdeal.nD Cert.SwaQkvIdeal.τ).loc Cert.SwaQkvIdeal.main_arg5) = m ((c.tc : Thread Cert.SwaQkvIdeal.nD Cert.SwaQkvIdeal.τ).loc Cert.SwaQkvIdeal.main_arg5)
          ∧ r.2.mem ((c.tc : Thread Cert.SwaQkvIdeal.nD Cert.SwaQkvIdeal.τ).loc Cert.SwaQkvIdeal.main_arg6) = m ((c.tc : Thread Cert.SwaQkvIdeal.nD Cert.SwaQkvIdeal.τ).loc Cert.SwaQkvIdeal.main_arg6)
          ∧ r.2.mem ((c.tc : Thread Cert.SwaQkvIdeal.nD Cert.SwaQkvIdeal.τ).loc Cert.SwaQkvIdeal.main_arg7) = m ((c.tc : Thread Cert.SwaQkvIdeal.nD Cert.SwaQkvIdeal.τ).loc Cert.SwaQkvIdeal.main_arg7))
      ∧ θ_run (Cert.SwaQkvRefIdeal.defs (F := Ideal)) (onTc (τ := Cert.SwaQkvRefIdeal.τ) (Cert.SwaQkvRefIdeal.main (F := Ideal))) ⟨m', fun _ => 0, g'⟩ (fun r => ∀ c : Dev Cert.SwaQkvRefIdeal.nD,
          r.2.mem ((c.tc : Thread Cert.SwaQkvRefIdeal.nD Cert.SwaQkvRefIdeal.τ).loc Cert.SwaQkvRefIdeal.main_v102) = v0 c
          ∧ r.2.mem ((c.tc : Thread Cert.SwaQkvRefIdeal.nD Cert.SwaQkvRefIdeal.τ).loc Cert.SwaQkvRefIdeal.main_arg0) = m' ((c.tc : Thread Cert.SwaQkvRefIdeal.nD Cert.SwaQkvRefIdeal.τ).loc Cert.SwaQkvRefIdeal.main_arg0)
          ∧ r.2.mem ((c.tc : Thread Cert.SwaQkvRefIdeal.nD Cert.SwaQkvRefIdeal.τ).loc Cert.SwaQkvRefIdeal.main_arg1) = m' ((c.tc : Thread Cert.SwaQkvRefIdeal.nD Cert.SwaQkvRefIdeal.τ).loc Cert.SwaQkvRefIdeal.main_arg1)
          ∧ r.2.mem ((c.tc : Thread Cert.SwaQkvRefIdeal.nD Cert.SwaQkvRefIdeal.τ).loc Cert.SwaQkvRefIdeal.main_arg2) = m' ((c.tc : Thread Cert.SwaQkvRefIdeal.nD Cert.SwaQkvRefIdeal.τ).loc Cert.SwaQkvRefIdeal.main_arg2)
          ∧ r.2.mem ((c.tc : Thread Cert.SwaQkvRefIdeal.nD Cert.SwaQkvRefIdeal.τ).loc Cert.SwaQkvRefIdeal.main_arg3) = m' ((c.tc : Thread Cert.SwaQkvRefIdeal.nD Cert.SwaQkvRefIdeal.τ).loc Cert.SwaQkvRefIdeal.main_arg3)
          ∧ r.2.mem ((c.tc : Thread Cert.SwaQkvRefIdeal.nD Cert.SwaQkvRefIdeal.τ).loc Cert.SwaQkvRefIdeal.main_arg4) = m' ((c.tc : Thread Cert.SwaQkvRefIdeal.nD Cert.SwaQkvRefIdeal.τ).loc Cert.SwaQkvRefIdeal.main_arg4)
          ∧ r.2.mem ((c.tc : Thread Cert.SwaQkvRefIdeal.nD Cert.SwaQkvRefIdeal.τ).loc Cert.SwaQkvRefIdeal.main_arg5) = m' ((c.tc : Thread Cert.SwaQkvRefIdeal.nD Cert.SwaQkvRefIdeal.τ).loc Cert.SwaQkvRefIdeal.main_arg5)
          ∧ r.2.mem ((c.tc : Thread Cert.SwaQkvRefIdeal.nD Cert.SwaQkvRefIdeal.τ).loc Cert.SwaQkvRefIdeal.main_arg6) = m' ((c.tc : Thread Cert.SwaQkvRefIdeal.nD Cert.SwaQkvRefIdeal.τ).loc Cert.SwaQkvRefIdeal.main_arg6)
          ∧ r.2.mem ((c.tc : Thread Cert.SwaQkvRefIdeal.nD Cert.SwaQkvRefIdeal.τ).loc Cert.SwaQkvRefIdeal.main_arg7) = m' ((c.tc : Thread Cert.SwaQkvRefIdeal.nD Cert.SwaQkvRefIdeal.τ).loc Cert.SwaQkvRefIdeal.main_arg7))

def Claim : Prop :=
  ∃ (hSwa : Cert.Swa.Facts) (hSwaIdeal : Cert.SwaIdeal.Facts) (hSwaRefIdeal : Cert.SwaRefIdeal.Facts) (hOutProj : Cert.OutProj.Facts) (hOutProjIdeal : Cert.OutProjIdeal.Facts) (hOutProjRefIdeal : Cert.OutProjRefIdeal.Facts) (hSharedUp : Cert.SharedUp.Facts) (hSharedUpIdeal : Cert.SharedUpIdeal.Facts) (hSharedUpRefIdeal : Cert.SharedUpRefIdeal.Facts) (hSharedDown : Cert.SharedDown.Facts) (hSharedDownIdeal : Cert.SharedDownIdeal.Facts) (hSharedDownRefIdeal : Cert.SharedDownRefIdeal.Facts) (hExperts : Cert.Experts.Facts) (hExpertsIdeal : Cert.ExpertsIdeal.Facts) (hExpertsRefIdeal : Cert.ExpertsRefIdeal.Facts) (hNatQkv : Cert.NatQkv.Facts) (hNatQkvIdeal : Cert.NatQkvIdeal.Facts) (hNatQkvRefIdeal : Cert.NatQkvRefIdeal.Facts) (hSwaQkv : Cert.SwaQkv.Facts) (hSwaQkvIdeal : Cert.SwaQkvIdeal.Facts) (hSwaQkvRefIdeal : Cert.SwaQkvRefIdeal.Facts) (hPre_finite : Cert.Pre_finite.Facts) (hPre_tables_ok : Cert.Pre_tables_ok.Facts) (hOn_in_use : Cert.On_in_use.Facts),
    quiescent_Swa (hSwa := hSwa)
    ∧ quiescent_SwaIdeal (hSwaIdeal := hSwaIdeal)
    ∧ quiescent_SwaIdeal_pre_finite (hSwaIdeal := hSwaIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SharedUp (hSharedUp := hSharedUp)
    ∧ quiescent_SharedUpIdeal (hSharedUpIdeal := hSharedUpIdeal)
    ∧ quiescent_SharedUpRefIdeal (hSharedUpRefIdeal := hSharedUpRefIdeal)
    ∧ quiescent_SharedDown (hSharedDown := hSharedDown)
    ∧ quiescent_SharedDownIdeal (hSharedDownIdeal := hSharedDownIdeal)
    ∧ quiescent_SharedDownRefIdeal (hSharedDownRefIdeal := hSharedDownRefIdeal)
    ∧ quiescent_Experts (hExperts := hExperts) (hPre_tables_ok := hPre_tables_ok)
    ∧ quiescent_ExpertsIdeal (hExpertsIdeal := hExpertsIdeal) (hPre_tables_ok := hPre_tables_ok)
    ∧ quiescent_ExpertsRefIdeal (hExpertsRefIdeal := hExpertsRefIdeal)
    ∧ quiescent_ExpertsRefIdeal_pre_tables_ok (hExpertsRefIdeal := hExpertsRefIdeal) (hPre_tables_ok := hPre_tables_ok)
    ∧ quiescent_NatQkv (hNatQkv := hNatQkv)
    ∧ quiescent_NatQkvIdeal (hNatQkvIdeal := hNatQkvIdeal)
    ∧ quiescent_NatQkvRefIdeal (hNatQkvRefIdeal := hNatQkvRefIdeal)
    ∧ quiescent_SwaQkv (hSwaQkv := hSwaQkv)
    ∧ quiescent_SwaQkvIdeal (hSwaQkvIdeal := hSwaQkvIdeal)
    ∧ quiescent_SwaQkvRefIdeal (hSwaQkvRefIdeal := hSwaQkvRefIdeal)
    ∧ preserves_Swa_SwaIdeal
    ∧ algebraic_SwaIdeal_SwaRefIdeal_pre_finite (hSwaIdeal := hSwaIdeal) (hSwaRefIdeal := hSwaRefIdeal) (hPre_finite := hPre_finite)
    ∧ preserves_OutProj_OutProjIdeal
    ∧ algebraic_OutProjIdeal_OutProjRefIdeal (hOutProjIdeal := hOutProjIdeal) (hOutProjRefIdeal := hOutProjRefIdeal)
    ∧ preserves_SharedUp_SharedUpIdeal
    ∧ algebraic_SharedUpIdeal_SharedUpRefIdeal (hSharedUpIdeal := hSharedUpIdeal) (hSharedUpRefIdeal := hSharedUpRefIdeal)
    ∧ preserves_SharedDown_SharedDownIdeal
    ∧ algebraic_SharedDownIdeal_SharedDownRefIdeal (hSharedDownIdeal := hSharedDownIdeal) (hSharedDownRefIdeal := hSharedDownRefIdeal)
    ∧ preserves_Experts_ExpertsIdeal
    ∧ algebraic_ExpertsIdeal_ExpertsRefIdeal_on_in_use (hExpertsIdeal := hExpertsIdeal) (hExpertsRefIdeal := hExpertsRefIdeal) (hPre_tables_ok := hPre_tables_ok) (hOn_in_use := hOn_in_use)
    ∧ preserves_NatQkv_NatQkvIdeal
    ∧ algebraic_NatQkvIdeal_NatQkvRefIdeal (hNatQkvIdeal := hNatQkvIdeal) (hNatQkvRefIdeal := hNatQkvRefIdeal)
    ∧ preserves_SwaQkv_SwaQkvIdeal
    ∧ algebraic_SwaQkvIdeal_SwaQkvRefIdeal (hSwaQkvIdeal := hSwaQkvIdeal) (hSwaQkvRefIdeal := hSwaQkvRefIdeal)
-- ==== On_in_use.lean ====
abbrev S81920x4096 : Shape := ⟨2, ![81920, 4096]⟩
abbrev S320 : Shape := ⟨1, ![320]⟩
abbrev S1 : Shape := ⟨1, ![1]⟩
abbrev S32x4096x256 : Shape := ⟨3, ![32, 4096, 256]⟩
abbrev S32x256x4096 : Shape := ⟨3, ![32, 256, 4096]⟩
abbrev S320x1x1 : Shape := ⟨3, ![320, 1, 1]⟩
abbrev S320x256x4096 : Shape := ⟨3, ![320, 256, 4096]⟩

class Facts : Prop where
  bcast_S1_S320_0 : S1.BroadcastsInDim S320 (![0] : Fin 1 → Fin S320.rank)
  bcast_S320_S320x1x1_0 : S320.BroadcastsInDim S320x1x1 (![0] : Fin 1 → Fin S320x1x1.rank)
  bcast_S320x1x1_S320x256x4096_0_1_2 : S320x1x1.BroadcastsInDim S320x256x4096 (![0, 1, 2] : Fin 3 → Fin S320x256x4096.rank)
  shapeCasts_S320x256x4096_S81920x4096 : S320x256x4096.ShapeCasts S81920x4096

variable [Facts]

def fn {F : FTy → Type} [FloatOps F] (main_arg0 : FVec F S81920x4096 .bf16) (main_arg1 : IVec S320 32) (main_arg2 : IVec S1 32) (main_arg3 : FVec F S32x4096x256 .bf16) (main_arg4 : FVec F S32x4096x256 .bf16) (main_arg5 : FVec F S32x256x4096 .bf16) : IVec S81920x4096 1 :=
  let main_v0 : IVec S320 32 := iotaInDim S320 32 0
  let main_v1 : IVec S320 32 := broadcastInDim S320 ![0] bcast_S1_S320_0 main_arg2
  let main_v2 : IVec S320 1 := cmpi .slt main_v0 main_v1
  let main_v3 : IVec S320x1x1 1 := broadcastInDim S320x1x1 ![0] bcast_S320_S320x1x1_0 main_v2
  let main_v4 : IVec S320x256x4096 1 := broadcastInDim S320x256x4096 ![0, 1, 2] bcast_S320x1x1_S320x256x4096_0_1_2 main_v3
  let main_v5 : IVec S81920x4096 1 := shapeCast S81920x4096 main_v4 shapeCasts_S320x256x4096_S81920x4096
  main_v5
-- ==== Pre_finite.lean ====
abbrev S18432x6144 : Shape := ⟨2, ![18432, 6144]⟩
abbrev S32 : Shape := ⟨1, ![32]⟩
abbrev S_ : Shape := ⟨0, ![]⟩

class Facts : Prop where
  bitsLt_bf16_f32 : FTy.bits .bf16 < FTy.bits .f32
  bcast_S_S18432x6144 : S_.BroadcastsInDim S18432x6144 (![] : Fin 0 → Fin S18432x6144.rank)
  reducesTo_S18432x6144_S_d0_1 : S18432x6144.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S18432x6144 .bf16) (main_arg1 : FVec F S32 .f32) : IVec S_ 1 :=
  let main_v0 : FVec F S18432x6144 .f32 := (extf .f32 · bitsLt_bf16_f32) main_arg0
  let main_v1 : FVec F S18432x6144 .f32 := Host.absf main_v0
  let main_cst : FVec F S_ .f32 := constant S_ .f32 0x7F800000#32
  let main_v2 : FVec F S18432x6144 .f32 := broadcastInDim S18432x6144 ![] bcast_S_S18432x6144 main_cst
  let main_v3 : IVec S18432x6144 1 := cmpf .olt main_v1 main_v2
  let main_c : IVec S_ 1 := constantI S_ 1 1#1
  let main_v4 : IVec S_ 1 := (fun x v => Host.reduce IntOp.andi x v reducesTo_S18432x6144_S_d0_1 h_S_) main_v3 main_c
  let main_v5 : FVec F S32 .f32 := Host.absf main_arg1
  let main_cst_0 : FVec F S_ .f32 := constant S_ .f32 0x7F800000#32
  let main_v6 : FVec F S32 .f32 := broadcastInDim S32 ![] bcast_S_S32 main_cst_0
  let main_v7 : IVec S32 1 := cmpf .olt main_v5 main_v6
  let main_c_1 : IVec S_ 1 := constantI S_ 1 1#1
  let main_v8 : IVec S_ 1 := (fun x v => Host.reduce IntOp.andi x v reducesTo_S32_S_d0 h_S_) main_v7 main_c_1
  let main_v9 : IVec S_ 1 := andi main_v4 main_v8
  main_v9
-- ==== Pre_tables_ok.lean ====
abbrev S81920x4096 : Shape := ⟨2, ![81920, 4096]⟩
abbrev S320 : Shape := ⟨1, ![320]⟩
abbrev S1 : Shape := ⟨1, ![1]⟩
abbrev S32x4096x256 : Shape := ⟨3, ![32, 4096, 256]⟩
abbrev S32x256x4096 : Shape := ⟨3, ![32, 256, 4096]⟩
abbrev S_ : Shape := ⟨0, ![]⟩

class Facts : Prop where
  bcast_S_S320 : S_.BroadcastsInDim S320 (![] : Fin 0 → Fin S320.rank)
  reducesTo_S320_S_d0 : S320.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S81920x4096 .bf16) (main_arg1 : IVec S320 32) (main_arg2 : IVec S1 32) (main_arg3 : FVec F S32x4096x256 .bf16) (main_arg4 : FVec F S32x4096x256 .bf16) (main_arg5 : FVec F S32x256x4096 .bf16) : IVec S_ 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 32#32
  let main_v2 : IVec S320 32 := broadcastInDim S320 ![] bcast_S_S320 main_c_0
  let main_v3 : IVec S320 1 := cmpi .slt main_arg1 main_v2
  let main_v4 : IVec S320 1 := andi main_v1 main_v3
  let main_c_1 : IVec S_ 1 := constantI S_ 1 1#1
  let main_v5 : IVec S_ 1 := (fun x v => Host.reduce IntOp.andi x v reducesTo_S320_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Swa.lean ====
abbrev S18432x6144 : Shape := ⟨2, ![18432, 6144]⟩
abbrev S32 : Shape := ⟨1, ![32]⟩
abbrev S16384x4096 : Shape := ⟨2, ![16384, 4096]⟩
abbrev S128x512 : Shape := ⟨2, ![128, 512]⟩
abbrev S128x128 : Shape := ⟨2, ![128, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S384x128 : Shape := ⟨2, ![384, 128]⟩
abbrev S512x384 : Shape := ⟨2, ![512, 384]⟩
abbrev S1x384 : Shape := ⟨2, ![1, 384]⟩
abbrev S1 : Shape := ⟨1, ![1]⟩

abbrev nBuf : Space → Nat
  | .hbm => 3
  | .vmem => 20
  | .smem => 1
  | _ => 0

abbrev bufTy : (tb : Table) → Fin (tcTables nBuf tb) → BufTy
  | .hbm, ⟨0, _⟩ => ⟨S18432x6144, .bf16⟩
  | .hbm, ⟨1, _⟩ => ⟨S32, .f32⟩
  | .hbm, ⟨2, _⟩ => ⟨S16384x4096, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S128x512, .bf16⟩
  | .local _ .vmem, ⟨19, _⟩ => ⟨S128x512, .bf16⟩
  | .local _ .smem, ⟨0, _⟩ => ⟨S32, .f32⟩
  | _, _ => ⟨S18432x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 8, 16], ![false, false, false]⟩

def k0_off1 (i : grid0.Coords) (c0_i32_38 : BitVec 32) : Fin 1 → Nat :=
  let arg1 : BitVec 32 := BitVec.ofNat 32 (i 1).val
  let c4_i32 : BitVec 32 := 4#32
  let v96 : BitVec 32 := Scalar.muli arg1 c4_i32
  let v97 : BitVec 32 := Scalar.addi v96 c0_i32_38
  let v98 : Index := Scalar.indexCast v97
  ![v98.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c_m1_i32 : BitVec 32 := 4294967295#32
  let v1 : BitVec 32 := Scalar.addi arg2 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c32_i32 : BitVec 32 := 32#32
  let v5 : BitVec 32 := Scalar.addi c32_i32 arg1
  let c0_i32_0 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi arg2 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c32_i32 : BitVec 32 := 32#32
  let v5 : BitVec 32 := Scalar.addi c32_i32 arg1
  let c0_i32_1 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.addi arg2 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c32_i32 : BitVec 32 := 32#32
  let v5 : BitVec 32 := Scalar.addi c32_i32 arg1
  let c0_i32_0 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c_m1_i32 : BitVec 32 := 4294967295#32
  let v1 : BitVec 32 := Scalar.addi arg2 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c40_i32 : BitVec 32 := 40#32
  let v5 : BitVec 32 := Scalar.addi c40_i32 arg1
  let c0_i32_0 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi arg2 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c40_i32 : BitVec 32 := 40#32
  let v5 : BitVec 32 := Scalar.addi c40_i32 arg1
  let c0_i32_1 : BitVec 32 := 0#32
  ![v4.toNat, v5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.addi arg2 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c40_i32 : BitVec 32 := 40#32
  let v5 : BitVec 32 := Scalar.addi c40_i32 arg1
  let c0_i32_0 : BitVec 32 := 0#32
  ![v4.toNat, v5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c32_i32 : BitVec 32 := 32#32
  let v1 : BitVec 32 := Scalar.addi c32_i32 arg1
  let c0_i32 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c40_i32 : BitVec 32 := 40#32
  let v1 : BitVec 32 := Scalar.addi c40_i32 arg1
  let c0_i32 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== SwaIdeal.lean ====
variable {F : FTy → Type} [FloatOps F] [Named F]
def κ : String → Option EReal := fun
  | "mask" => some ⊥
  | _ => none
-- ==== SwaRefIdeal.lean ====
abbrev S18432x6144 : Shape := ⟨2, ![18432, 6144]⟩
abbrev S32 : Shape := ⟨1, ![32]⟩
abbrev S16384x6144 : Shape := ⟨2, ![16384, 6144]⟩
abbrev S2048x6144 : Shape := ⟨2, ![2048, 6144]⟩
abbrev S16384x4096 : Shape := ⟨2, ![16384, 4096]⟩
abbrev S8x2048x8x4x128 : Shape := ⟨5, ![8, 2048, 8, 4, 128]⟩
abbrev S16384x1024 : Shape := ⟨2, ![16384, 1024]⟩
abbrev S8x2048x8x128 : Shape := ⟨4, ![8, 2048, 8, 128]⟩
abbrev S2048x1024 : Shape := ⟨2, ![2048, 1024]⟩
abbrev S8x256x8x128 : Shape := ⟨4, ![8, 256, 8, 128]⟩
abbrev S8x4 : Shape := ⟨2, ![8, 4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x8x2048x2048x4 : Shape := ⟨5, ![8, 8, 2048, 2048, 4]⟩
abbrev S8x8x4x2048x2048 : Shape := ⟨5, ![8, 8, 4, 2048, 2048]⟩
abbrev S8x8x256x2048x4 : Shape := ⟨5, ![8, 8, 256, 2048, 4]⟩
abbrev S8x8x4x2048x256 : Shape := ⟨5, ![8, 8, 4, 2048, 256]⟩
abbrev S1x8x4x1x1 : Shape := ⟨5, ![1, 8, 4, 1, 1]⟩
abbrev S8x8x4x2048x1 : Shape := ⟨5, ![8, 8, 4, 2048, 1]⟩
abbrev S8x8x4x2048x2305 : Shape := ⟨5, ![8, 8, 4, 2048, 2305]⟩
abbrev S8x8x4x2048 : Shape := ⟨4, ![8, 8, 4, 2048]⟩
abbrev S8x8x128x4x2048 : Shape := ⟨5, ![8, 8, 128, 4, 2048]⟩

abbrev nBuf : Space → Nat
  | .hbm => 67
  | .vmem => 0
  | .smem => 0
  | _ => 0

abbrev bufTy : (tb : Table) → Fin (tcTables nBuf tb) → BufTy
  | .hbm, ⟨0, _⟩ => ⟨S18432x6144, .bf16⟩
  | .hbm, ⟨1, _⟩ => ⟨S32, .f32⟩
  | .hbm, ⟨2, _⟩ => ⟨S18432x6144, .f32⟩
  | .hbm, ⟨3, _⟩ => ⟨S16384x6144, .f32⟩
  | .hbm, ⟨4, _⟩ => ⟨S2048x6144, .f32⟩
  | .hbm, ⟨5, _⟩ => ⟨S16384x4096, .f32⟩
  | .hbm, ⟨6, _⟩ => ⟨S8x2048x8x4x128, .f32⟩
  | .hbm, ⟨7, _⟩ => ⟨S16384x1024, .f32⟩
  | .hbm, ⟨8, _⟩ => ⟨S8x2048x8x128, .f32⟩
  | .hbm, ⟨9, _⟩ => ⟨S16384x1024, .f32⟩
  | .hbm, ⟨10, _⟩ => ⟨S8x2048x8x128, .f32⟩
  | .hbm, ⟨11, _⟩ => ⟨S2048x1024, .f32⟩
  | .hbm, ⟨12, _⟩ => ⟨S8x256x8x128, .f32⟩
  | .hbm, ⟨13, _⟩ => ⟨S2048x1024, .f32⟩
  | .hbm, ⟨14, _⟩ => ⟨S8x256x8x128, .f32⟩
  | .hbm, ⟨15, _⟩ => ⟨S8x4, .f32⟩
  | .hbm, ⟨16, _⟩ => ⟨S2048, .i32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S8x8x2048x2048x4, .f32⟩
  | .hbm, ⟨27, _⟩ => ⟨S8x8x4x2048x2048, .f32⟩
  | .hbm, ⟨28, _⟩ => ⟨S_, .f32⟩
  | .hbm, ⟨29, _⟩ => ⟨S8x8x4x2048x2048, .f32⟩
  | .hbm, ⟨30, _⟩ => ⟨S8x8x4x2048x2048, .f32⟩
  | .hbm, ⟨31, _⟩ => ⟨S_, .f32⟩
  | .hbm, ⟨32, _⟩ => ⟨S_, .f32⟩
  | .hbm, ⟨33, _⟩ => ⟨S8x8x4x2048x2048, .i1⟩
  | .hbm, ⟨34, _⟩ => ⟨S8x8x4x2048x2048, .f32⟩
  | .hbm, ⟨35, _⟩ => ⟨S8x8x4x2048x2048, .f32⟩
  | .hbm, ⟨36, _⟩ => ⟨S8x8x256x2048x4, .f32⟩
  | .hbm, ⟨37, _⟩ => ⟨S8x8x4x2048x256, .f32⟩
  | .hbm, ⟨38, _⟩ => ⟨S_, .f32⟩
  | .hbm, ⟨39, _⟩ => ⟨S8x8x4x2048x256, .f32⟩
  | .hbm, ⟨40, _⟩ => ⟨S8x8x4x2048x256, .f32⟩
  | .hbm, ⟨41, _⟩ => ⟨S1x8x4x1x1, .f32⟩
  | .hbm, ⟨42, _⟩ => ⟨S8x8x4x2048x1, .f32⟩
  | .hbm, ⟨43, _⟩ => ⟨S8x8x4x2048x2305, .f32⟩
  | .hbm, ⟨44, _⟩ => ⟨S_, .f32⟩
  | .hbm, ⟨45, _⟩ => ⟨S8x8x4x2048, .f32⟩
  | .hbm, ⟨46, _⟩ => ⟨S_, .f32⟩
  | .hbm, ⟨47, _⟩ => ⟨S8x8x4x2048, .f32⟩
  | .hbm, ⟨48, _⟩ => ⟨S8x8x4x2048, .f32⟩
  | .hbm, ⟨49, _⟩ => ⟨S8x8x4x2048x1, .f32⟩
  | .hbm, ⟨50, _⟩ => ⟨S8x8x4x2048x2305, .f32⟩
  | .hbm, ⟨51, _⟩ => ⟨S8x8x4x2048x2305, .f32⟩
  | .hbm, ⟨52, _⟩ => ⟨S8x8x4x2048x2305, .f32⟩
  | .hbm, ⟨53, _⟩ => ⟨S_, .f32⟩
  | .hbm, ⟨54, _⟩ => ⟨S8x8x4x2048, .f32⟩
  | .hbm, ⟨55, _⟩ => ⟨S8x8x4x2048x1, .f32⟩
  | .hbm, ⟨56, _⟩ => ⟨S8x8x4x2048x2305, .f32⟩
  | .hbm, ⟨57, _⟩ => ⟨S8x8x4x2048x2305, .f32⟩
  | .hbm, ⟨58, _⟩ => ⟨S8x8x4x2048x2048, .f32⟩
  | .hbm, ⟨59, _⟩ => ⟨S8x8x128x4x2048, .f32⟩
  | .hbm, ⟨60, _⟩ => ⟨S8x2048x8x4x128, .f32⟩
  | .hbm, ⟨61, _⟩ => ⟨S8x8x4x2048x256, .f32⟩
  | .hbm, ⟨62, _⟩ => ⟨S8x8x128x4x2048, .f32⟩
  | .hbm, ⟨63, _⟩ => ⟨S8x2048x8x4x128, .f32⟩
  | .hbm, ⟨64, _⟩ => ⟨S8x2048x8x4x128, .f32⟩
  | .hbm, ⟨65, _⟩ => ⟨S16384x4096, .f32⟩
  | .hbm, ⟨66, _⟩ => ⟨S16384x4096, .bf16⟩
  | _, _ => ⟨S18432x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== OutProj.lean ====
abbrev S18432x4096 : Shape := ⟨2, ![18432, 4096]⟩
abbrev S4096x4096 : Shape := ⟨2, ![4096, 4096]⟩
abbrev S16x6x1x4096 : Shape := ⟨4, ![16, 6, 1, 4096]⟩
abbrev S1024x4096 : Shape := ⟨2, ![1024, 4096]⟩
abbrev S4096x512 : Shape := ⟨2, ![4096, 512]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S18432x4096, .bf16⟩
  | .hbm, ⟨1, _⟩ => ⟨S4096x4096, .f32⟩
  | .hbm, ⟨2, _⟩ => ⟨S18432x4096, .f32⟩
  | .hbm, ⟨3, _⟩ => ⟨S16x6x1x4096, .f32⟩
  | .hbm, ⟨4, _⟩ => ⟨S4096x4096, .bf16⟩
  | .hbm, ⟨5, _⟩ => ⟨S18432x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c2_i32 : BitVec 32 := 2#32
  let c0_i32_4 : BitVec 32 := 0#32
  let c0_i32_5 : BitVec 32 := 0#32
  ![v18.toNat, c2_i32.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S18432x4096 : Shape := ⟨2, ![18432, 4096]⟩
abbrev S4096x4096 : Shape := ⟨2, ![4096, 4096]⟩
abbrev S16x6x1x4096 : Shape := ⟨4, ![16, 6, 1, 4096]⟩
abbrev S16x1x1x4096 : Shape := ⟨4, ![16, 1, 1, 4096]⟩
abbrev S16x1x4096 : Shape := ⟨3, ![16, 1, 4096]⟩
abbrev S16384x4096 : Shape := ⟨2, ![16384, 4096]⟩
abbrev S8x2048x4096 : Shape := ⟨3, ![8, 2048, 4096]⟩
abbrev S8x1x4096 : Shape := ⟨3, ![8, 1, 4096]⟩
abbrev S2048x4096 : Shape := ⟨2, ![2048, 4096]⟩
abbrev S1x1x4096 : Shape := ⟨3, ![1, 1, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x4096, .f32⟩
  | .hbm, ⟨2, _⟩ => ⟨S18432x4096, .f32⟩
  | .hbm, ⟨3, _⟩ => ⟨S16x6x1x4096, .f32⟩
  | .hbm, ⟨4, _⟩ => ⟨S16x1x1x4096, .f32⟩
  | .hbm, ⟨5, _⟩ => ⟨S16x1x4096, .f32⟩
  | .hbm, ⟨6, _⟩ => ⟨S18432x4096, .f32⟩
  | .hbm, ⟨7, _⟩ => ⟨S18432x4096, .f32⟩
  | .hbm, ⟨8, _⟩ => ⟨S16384x4096, .f32⟩
  | .hbm, ⟨9, _⟩ => ⟨S8x2048x4096, .f32⟩
  | .hbm, ⟨10, _⟩ => ⟨S8x1x4096, .f32⟩
  | .hbm, ⟨11, _⟩ => ⟨S16384x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S2048x4096, .f32⟩
  | .hbm, ⟨17, _⟩ => ⟨S1x1x4096, .f32⟩
  | .hbm, ⟨18, _⟩ => ⟨S1x4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S16384x4096, .f32⟩
  | .hbm, ⟨24, _⟩ => ⟨S18432x4096, .f32⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== SharedUp.lean ====
abbrev S18432x4096 : Shape := ⟨2, ![18432, 4096]⟩
abbrev S4096x1024 : Shape := ⟨2, ![4096, 1024]⟩
abbrev S18432x1024 : Shape := ⟨2, ![18432, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S18432x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S18432x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SharedUpRefIdeal.lean ====
abbrev S18432x4096 : Shape := ⟨2, ![18432, 4096]⟩
abbrev S4096x1024 : Shape := ⟨2, ![4096, 1024]⟩
abbrev S18432x1024 : Shape := ⟨2, ![18432, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x1024, .f32⟩
  | .hbm, ⟨2, _⟩ => ⟨S4096x1024, .f32⟩
  | .hbm, ⟨3, _⟩ => ⟨S18432x4096, .f32⟩
  | .hbm, ⟨4, _⟩ => ⟨S18432x1024, .f32⟩
  | .hbm, ⟨5, _⟩ => ⟨S18432x1024, .f32⟩
  | .hbm, ⟨6, _⟩ => ⟨S18432x1024, .f32⟩
  | .hbm, ⟨7, _⟩ => ⟨S_, .f32⟩
  | .hbm, ⟨8, _⟩ => ⟨S18432x1024, .f32⟩
  | .hbm, ⟨9, _⟩ => ⟨S18432x1024, .f32⟩
  | .hbm, ⟨10, _⟩ => ⟨S_, .f32⟩
  | .hbm, ⟨11, _⟩ => ⟨S18432x1024, .f32⟩
  | .hbm, ⟨12, _⟩ => ⟨S18432x1024, .f32⟩
  | .hbm, ⟨13, _⟩ => ⟨S18432x1024, .f32⟩
  | .hbm, ⟨14, _⟩ => ⟨S18432x1024, .f32⟩
  | .hbm, ⟨15, _⟩ => ⟨S18432x1024, .f32⟩
  | .hbm, ⟨16, _⟩ => ⟨S18432x1024, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== SharedDown.lean ====
abbrev S18432x1024 : Shape := ⟨2, ![18432, 1024]⟩
abbrev S1024x4096 : Shape := ⟨2, ![1024, 4096]⟩
abbrev S18432x4096 : Shape := ⟨2, ![18432, 4096]⟩
abbrev S16x6x1x4096 : Shape := ⟨4, ![16, 6, 1, 4096]⟩
abbrev S1024x1024 : Shape := ⟨2, ![1024, 1024]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S18432x1024, .bf16⟩
  | .hbm, ⟨1, _⟩ => ⟨S1024x4096, .f32⟩
  | .hbm, ⟨2, _⟩ => ⟨S18432x4096, .f32⟩
  | .hbm, ⟨3, _⟩ => ⟨S16x6x1x4096, .f32⟩
  | .hbm, ⟨4, _⟩ => ⟨S1024x4096, .bf16⟩
  | .hbm, ⟨5, _⟩ => ⟨S18432x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c5_i32 : BitVec 32 := 5#32
  let c0_i32_4 : BitVec 32 := 0#32
  let c0_i32_5 : BitVec 32 := 0#32
  ![v18.toNat, c5_i32.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SharedDownRefIdeal.lean ====
abbrev S18432x1024 : Shape := ⟨2, ![18432, 1024]⟩
abbrev S1024x4096 : Shape := ⟨2, ![1024, 4096]⟩
abbrev S18432x4096 : Shape := ⟨2, ![18432, 4096]⟩
abbrev S16x6x1x4096 : Shape := ⟨4, ![16, 6, 1, 4096]⟩
abbrev S16x1x1x4096 : Shape := ⟨4, ![16, 1, 1, 4096]⟩
abbrev S16x1x4096 : Shape := ⟨3, ![16, 1, 4096]⟩
abbrev S16384x4096 : Shape := ⟨2, ![16384, 4096]⟩
abbrev S8x2048x4096 : Shape := ⟨3, ![8, 2048, 4096]⟩
abbrev S8x1x4096 : Shape := ⟨3, ![8, 1, 4096]⟩
abbrev S2048x4096 : Shape := ⟨2, ![2048, 4096]⟩
abbrev S1x1x4096 : Shape := ⟨3, ![1, 1, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S1024x4096, .f32⟩
  | .hbm, ⟨2, _⟩ => ⟨S18432x4096, .f32⟩
  | .hbm, ⟨3, _⟩ => ⟨S16x6x1x4096, .f32⟩
  | .hbm, ⟨4, _⟩ => ⟨S16x1x1x4096, .f32⟩
  | .hbm, ⟨5, _⟩ => ⟨S16x1x4096, .f32⟩
  | .hbm, ⟨6, _⟩ => ⟨S18432x1024, .f32⟩
  | .hbm, ⟨7, _⟩ => ⟨S18432x4096, .f32⟩
  | .hbm, ⟨8, _⟩ => ⟨S16384x4096, .f32⟩
  | .hbm, ⟨9, _⟩ => ⟨S8x2048x4096, .f32⟩
  | .hbm, ⟨10, _⟩ => ⟨S8x1x4096, .f32⟩
  | .hbm, ⟨11, _⟩ => ⟨S16384x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S2048x4096, .f32⟩
  | .hbm, ⟨17, _⟩ => ⟨S1x1x4096, .f32⟩
  | .hbm, ⟨18, _⟩ => ⟨S1x4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S16384x4096, .f32⟩
  | .hbm, ⟨24, _⟩ => ⟨S18432x4096, .f32⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Experts.lean ====
abbrev S81920x4096 : Shape := ⟨2, ![81920, 4096]⟩
abbrev S320 : Shape := ⟨1, ![320]⟩
abbrev S1 : Shape := ⟨1, ![1]⟩
abbrev S32x4096x256 : Shape := ⟨3, ![32, 4096, 256]⟩
abbrev S32x256x4096 : Shape := ⟨3, ![32, 256, 4096]⟩
abbrev S256x4096 : Shape := ⟨2, ![256, 4096]⟩
abbrev S1x4096x256 : Shape := ⟨3, ![1, 4096, 256]⟩
abbrev S1x256x4096 : Shape := ⟨3, ![1, 256, 4096]⟩
abbrev S4096x256 : Shape := ⟨2, ![4096, 256]⟩
abbrev S256x256 : Shape := ⟨2, ![256, 256]⟩

abbrev nBuf : Space → Nat
  | .hbm => 5
  | .vmem => 10
  | .smem => 2
  | _ => 0

abbrev bufTy : (tb : Table) → Fin (tcTables nBuf tb) → BufTy
  | .hbm, ⟨0, _⟩ => ⟨S81920x4096, .bf16⟩
  | .hbm, ⟨1, _⟩ => ⟨S32x4096x256, .bf16⟩
  | .hbm, ⟨2, _⟩ => ⟨S32x4096x256, .bf16⟩
  | .hbm, ⟨3, _⟩ => ⟨S32x256x4096, .bf16⟩
  | .hbm, ⟨4, _⟩ => ⟨S81920x4096, .bf16⟩
  | .local _ .vmem, ⟨0, _⟩ => ⟨S256x4096, .bf16⟩
  | .local _ .vmem, ⟨1, _⟩ => ⟨S256x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x4096, .bf16⟩
  | .local _ .vmem, ⟨7, _⟩ => ⟨S1x256x4096, .bf16⟩
  | .local _ .vmem, ⟨8, _⟩ => ⟨S256x4096, .bf16⟩
  | .local _ .vmem, ⟨9, _⟩ => ⟨S256x4096, .bf16⟩
  | .local _ .smem, ⟨0, _⟩ => ⟨S320, .i32⟩
  | .local _ .smem, ⟨1, _⟩ => ⟨S1, .i32⟩
  | _, _ => ⟨S81920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S81920x4096 : Shape := ⟨2, ![81920, 4096]⟩
abbrev S320 : Shape := ⟨1, ![320]⟩
abbrev S1 : Shape := ⟨1, ![1]⟩
abbrev S32x4096x256 : Shape := ⟨3, ![32, 4096, 256]⟩
abbrev S32x256x4096 : Shape := ⟨3, ![32, 256, 4096]⟩
abbrev S320x1 : Shape := ⟨2, ![320, 1]⟩
abbrev S320x256 : Shape := ⟨2, ![320, 256]⟩
abbrev S81920 : Shape := ⟨1, ![81920]⟩
abbrev S81920x1 : Shape := ⟨2, ![81920, 1]⟩
abbrev S32 : Shape := ⟨1, ![32]⟩
abbrev S1x32 : Shape := ⟨2, ![1, 32]⟩
abbrev S81920x32 : Shape := ⟨2, ![81920, 32]⟩
abbrev S81920x32x256 : Shape := ⟨3, ![81920, 32, 256]⟩
abbrev S_ : Shape := ⟨0, ![]⟩
abbrev S81920x32x1 : Shape := ⟨3, ![81920, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S81920x4096, .bf16⟩
  | .hbm, ⟨1, _⟩ => ⟨S320, .i32⟩
  | .hbm, ⟨2, _⟩ => ⟨S1, .i32⟩
  | .hbm, ⟨3, _⟩ => ⟨S32x4096x256, .bf16⟩
  | .hbm, ⟨4, _⟩ => ⟨S32x4096x256, .bf16⟩
  | .hbm, ⟨5, _⟩ => ⟨S32x256x4096, .bf16⟩
  | .hbm, ⟨6, _⟩ => ⟨S320x1, .i32⟩
  | .hbm, ⟨7, _⟩ => ⟨S320x256, .i32⟩
  | .hbm, ⟨8, _⟩ => ⟨S81920, .i32⟩
  | .hbm, ⟨9, _⟩ => ⟨S81920x1, .i32⟩
  | .hbm, ⟨10, _⟩ => ⟨S32, .i32⟩
  | .hbm, ⟨11, _⟩ => ⟨S1x32, .i32⟩
  | .hbm, ⟨12, _⟩ => ⟨S81920x32, .i32⟩
  | .hbm, ⟨13, _⟩ => ⟨S81920x32, .i32⟩
  | .hbm, ⟨14, _⟩ => ⟨S81920x32, .i1⟩
  | .hbm, ⟨15, _⟩ => ⟨S81920x32, .f32⟩
  | .hbm, ⟨16, _⟩ => ⟨S81920x32x256, .f32⟩
  | .hbm, ⟨17, _⟩ => ⟨S81920x32x256, .f32⟩
  | .hbm, ⟨18, _⟩ => ⟨S81920x32x256, .f32⟩
  | .hbm, ⟨19, _⟩ => ⟨S_, .f32⟩
  | .hbm, ⟨20, _⟩ => ⟨S81920x32x256, .f32⟩
  | .hbm, ⟨21, _⟩ => ⟨S81920x32x256, .f32⟩
  | .hbm, ⟨22, _⟩ => ⟨S_, .f32⟩
  | .hbm, ⟨23, _⟩ => ⟨S81920x32x256, .f32⟩
  | .hbm, ⟨24, _⟩ => ⟨S81920x32x256, .f32⟩
  | .hbm, ⟨25, _⟩ => ⟨S81920x32x256, .f32⟩
  | .hbm, ⟨26, _⟩ => ⟨S81920x32x256, .f32⟩
  | .hbm, ⟨27, _⟩ => ⟨S81920x32x256, .f32⟩
  | .hbm, ⟨28, _⟩ => ⟨S81920x32x256, .bf16⟩
  | .hbm, ⟨29, _⟩ => ⟨S81920x32x1, .f32⟩
  | .hbm, ⟨30, _⟩ => ⟨S81920x32x256, .f32⟩
  | .hbm, ⟨31, _⟩ => ⟨S81920x32x256, .f32⟩
  | .hbm, ⟨32, _⟩ => ⟨S81920x32x256, .f32⟩
  | .hbm, ⟨33, _⟩ => ⟨S81920x32x256, .bf16⟩
  | .hbm, ⟨34, _⟩ => ⟨S81920x4096, .f32⟩
  | .hbm, ⟨35, _⟩ => ⟨S81920x4096, .bf16⟩
  | _, _ => ⟨S81920x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== NatQkv.lean ====
abbrev S18432x4096 : Shape := ⟨2, ![18432, 4096]⟩
abbrev S4096x12288 : Shape := ⟨2, ![4096, 12288]⟩
abbrev S128 : Shape := ⟨1, ![128]⟩
abbrev S18432x128 : Shape := ⟨2, ![18432, 128]⟩
abbrev S1x128 : Shape := ⟨2, ![1, 128]⟩
abbrev S32x128 : Shape := ⟨2, ![32, 128]⟩
abbrev S4096 : Shape := ⟨1, ![4096]⟩
abbrev S_ : Shape := ⟨0, ![]⟩
abbrev S12288 : Shape := ⟨1, ![12288]⟩
abbrev S1x12288 : Shape := ⟨2, ![1, 12288]⟩
abbrev S18432x12288 : Shape := ⟨2, ![18432, 12288]⟩
abbrev S1024x4096 : Shape := ⟨2, ![1024, 4096]⟩
abbrev S4096x512 : Shape := ⟨2, ![4096, 512]⟩
abbrev S1x512 : Shape := ⟨2, ![1, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 18
  | .vmem => 12
  | .smem => 0
  | _ => 0

abbrev bufTy : (tb : Table) → Fin (tcTables nBuf tb) → BufTy
  | .hbm, ⟨0, _⟩ => ⟨S18432x4096, .bf16⟩
  | .hbm, ⟨1, _⟩ => ⟨S4096x12288, .f32⟩
  | .hbm, ⟨2, _⟩ => ⟨S128, .f32⟩
  | .hbm, ⟨3, _⟩ => ⟨S128, .f32⟩
  | .hbm, ⟨4, _⟩ => ⟨S18432x128, .f32⟩
  | .hbm, ⟨5, _⟩ => ⟨S18432x128, .f32⟩
  | .hbm, ⟨6, _⟩ => ⟨S1x128, .f32⟩
  | .hbm, ⟨7, _⟩ => ⟨S32x128, .f32⟩
  | .hbm, ⟨8, _⟩ => ⟨S4096, .f32⟩
  | .hbm, ⟨9, _⟩ => ⟨S1x128, .f32⟩
  | .hbm, ⟨10, _⟩ => ⟨S32x128, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S12288, .f32⟩
  | .hbm, ⟨15, _⟩ => ⟨S1x12288, .f32⟩
  | .hbm, ⟨16, _⟩ => ⟨S4096x12288, .bf16⟩
  | .hbm, ⟨17, _⟩ => ⟨S18432x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![18, 24], ![false, false]⟩

def k0_cond1 (i : grid0.Coords) : BitVec 1 :=
  let arg1 : BitVec 32 := BitVec.ofNat 32 (i 1).val
  let c16_i32 : BitVec 32 := 16#32
  let v4 : BitVec 1 := Scalar.cmpi .slt arg1 c16_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c16_i32_3 : BitVec 32 := 16#32
  let v7 : BitVec 1 := Scalar.cmpi .sge arg1 c16_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NatQkvRefIdeal.lean ====
abbrev S18432x4096 : Shape := ⟨2, ![18432, 4096]⟩
abbrev S4096x12288 : Shape := ⟨2, ![4096, 12288]⟩
abbrev S128 : Shape := ⟨1, ![128]⟩
abbrev S18432x128 : Shape := ⟨2, ![18432, 128]⟩
abbrev S18432x12288 : Shape := ⟨2, ![18432, 12288]⟩
abbrev S18432x32x128 : Shape := ⟨3, ![18432, 32, 128]⟩
abbrev S_ : Shape := ⟨0, ![]⟩
abbrev S18432x32 : Shape := ⟨2, ![18432, 32]⟩
abbrev S18432x32x1 : Shape := ⟨3, ![18432, 32, 1]⟩
abbrev S1x1x128 : Shape := ⟨3, ![1, 1, 128]⟩

abbrev nBuf : Space → Nat
  | .hbm => 49
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x12288, .f32⟩
  | .hbm, ⟨2, _⟩ => ⟨S128, .f32⟩
  | .hbm, ⟨3, _⟩ => ⟨S128, .f32⟩
  | .hbm, ⟨4, _⟩ => ⟨S18432x128, .f32⟩
  | .hbm, ⟨5, _⟩ => ⟨S18432x128, .f32⟩
  | .hbm, ⟨6, _⟩ => ⟨S18432x4096, .f32⟩
  | .hbm, ⟨7, _⟩ => ⟨S18432x12288, .f32⟩
  | .hbm, ⟨8, _⟩ => ⟨S18432x4096, .f32⟩
  | .hbm, ⟨9, _⟩ => ⟨S18432x4096, .f32⟩
  | .hbm, ⟨10, _⟩ => ⟨S18432x4096, .f32⟩
  | .hbm, ⟨11, _⟩ => ⟨S18432x32x128, .f32⟩
  | .hbm, ⟨12, _⟩ => ⟨S18432x32x128, .f32⟩
  | .hbm, ⟨13, _⟩ => ⟨S_, .f32⟩
  | .hbm, ⟨14, _⟩ => ⟨S18432x32, .f32⟩
  | .hbm, ⟨15, _⟩ => ⟨S18432x32x1, .f32⟩
  | .hbm, ⟨16, _⟩ => ⟨S_, .f32⟩
  | .hbm, ⟨17, _⟩ => ⟨S18432x32x1, .f32⟩
  | .hbm, ⟨18, _⟩ => ⟨S18432x32x1, .f32⟩
  | .hbm, ⟨19, _⟩ => ⟨S_, .f32⟩
  | .hbm, ⟨20, _⟩ => ⟨S18432x32x1, .f32⟩
  | .hbm, ⟨21, _⟩ => ⟨S18432x32x1, .f32⟩
  | .hbm, ⟨22, _⟩ => ⟨S18432x32x1, .f32⟩
  | .hbm, ⟨23, _⟩ => ⟨S18432x32x128, .f32⟩
  | .hbm, ⟨24, _⟩ => ⟨S18432x32x128, .f32⟩
  | .hbm, ⟨25, _⟩ => ⟨S1x1x128, .f32⟩
  | .hbm, ⟨26, _⟩ => ⟨S18432x32x128, .f32⟩
  | .hbm, ⟨27, _⟩ => ⟨S18432x32x128, .f32⟩
  | .hbm, ⟨28, _⟩ => ⟨S18432x4096, .f32⟩
  | .hbm, ⟨29, _⟩ => ⟨S18432x32x128, .f32⟩
  | .hbm, ⟨30, _⟩ => ⟨S18432x32x128, .f32⟩
  | .hbm, ⟨31, _⟩ => ⟨S_, .f32⟩
  | .hbm, ⟨32, _⟩ => ⟨S18432x32, .f32⟩
  | .hbm, ⟨33, _⟩ => ⟨S18432x32x1, .f32⟩
  | .hbm, ⟨34, _⟩ => ⟨S_, .f32⟩
  | .hbm, ⟨35, _⟩ => ⟨S18432x32x1, .f32⟩
  | .hbm, ⟨36, _⟩ => ⟨S18432x32x1, .f32⟩
  | .hbm, ⟨37, _⟩ => ⟨S_, .f32⟩
  | .hbm, ⟨38, _⟩ => ⟨S18432x32x1, .f32⟩
  | .hbm, ⟨39, _⟩ => ⟨S18432x32x1, .f32⟩
  | .hbm, ⟨40, _⟩ => ⟨S18432x32x1, .f32⟩
  | .hbm, ⟨41, _⟩ => ⟨S18432x32x128, .f32⟩
  | .hbm, ⟨42, _⟩ => ⟨S18432x32x128, .f32⟩
  | .hbm, ⟨43, _⟩ => ⟨S1x1x128, .f32⟩
  | .hbm, ⟨44, _⟩ => ⟨S18432x32x128, .f32⟩
  | .hbm, ⟨45, _⟩ => ⟨S18432x32x128, .f32⟩
  | .hbm, ⟨46, _⟩ => ⟨S18432x4096, .f32⟩
  | .hbm, ⟨47, _⟩ => ⟨S18432x12288, .f32⟩
  | .hbm, ⟨48, _⟩ => ⟨S18432x12288, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== SwaQkv.lean ====
abbrev S18432x4096 : Shape := ⟨2, ![18432, 4096]⟩
abbrev S4096x6144 : Shape := ⟨2, ![4096, 6144]⟩
abbrev S128 : Shape := ⟨1, ![128]⟩
abbrev S18432x32 : Shape := ⟨2, ![18432, 32]⟩
abbrev S1x128 : Shape := ⟨2, ![1, 128]⟩
abbrev S32x128 : Shape := ⟨2, ![32, 128]⟩
abbrev S4096 : Shape := ⟨1, ![4096]⟩
abbrev S8x128 : Shape := ⟨2, ![8, 128]⟩
abbrev S1024 : Shape := ⟨1, ![1024]⟩
abbrev S_ : Shape := ⟨0, ![]⟩
abbrev S6144 : Shape := ⟨1, ![6144]⟩
abbrev S1x6144 : Shape := ⟨2, ![1, 6144]⟩
abbrev S18432x128 : Shape := ⟨2, ![18432, 128]⟩
abbrev S18432x6144 : Shape := ⟨2, ![18432, 6144]⟩
abbrev S1024x4096 : Shape := ⟨2, ![1024, 4096]⟩
abbrev S4096x512 : Shape := ⟨2, ![4096, 512]⟩
abbrev S1x512 : Shape := ⟨2, ![1, 512]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 24
  | .vmem => 12
  | .smem => 0
  | _ => 0

abbrev bufTy : (tb : Table) → Fin (tcTables nBuf tb) → BufTy
  | .hbm, ⟨0, _⟩ => ⟨S18432x4096, .bf16⟩
  | .hbm, ⟨1, _⟩ => ⟨S4096x6144, .f32⟩
  | .hbm, ⟨2, _⟩ => ⟨S128, .f32⟩
  | .hbm, ⟨3, _⟩ => ⟨S128, .f32⟩
  | .hbm, ⟨4, _⟩ => ⟨S18432x32, .f32⟩
  | .hbm, ⟨5, _⟩ => ⟨S18432x32, .f32⟩
  | .hbm, ⟨6, _⟩ => ⟨S18432x32, .f32⟩
  | .hbm, ⟨7, _⟩ => ⟨S18432x32, .f32⟩
  | .hbm, ⟨8, _⟩ => ⟨S1x128, .f32⟩
  | .hbm, ⟨9, _⟩ => ⟨S32x128, .f32⟩
  | .hbm, ⟨10, _⟩ => ⟨S4096, .f32⟩
  | .hbm, ⟨11, _⟩ => ⟨S1x128, .f32⟩
  | .hbm, ⟨12, _⟩ => ⟨S8x128, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S6144, .f32⟩
  | .hbm, ⟨17, _⟩ => ⟨S1x6144, .f32⟩
  | .hbm, ⟨18, _⟩ => ⟨S18432x128, .f32⟩
  | .hbm, ⟨19, _⟩ => ⟨S18432x32, .f32⟩
  | .hbm, ⟨20, _⟩ => ⟨S18432x32, .f32⟩
  | .hbm, ⟨21, _⟩ => ⟨S18432x128, .f32⟩
  | .hbm, ⟨22, _⟩ => ⟨S4096x6144, .bf16⟩
  | .hbm, ⟨23, _⟩ => ⟨S18432x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![18, 12], ![false, false]⟩

def k0_cond1 (i : grid0.Coords) : BitVec 1 :=
  let arg1 : BitVec 32 := BitVec.ofNat 32 (i 1).val
  let c10_i32 : BitVec 32 := 10#32
  let v4 : BitVec 1 := Scalar.cmpi .slt arg1 c10_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c10_i32_3 : BitVec 32 := 10#32
  let v7 : BitVec 1 := Scalar.cmpi .sge arg1 c10_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwaQkvRefIdeal.lean ====
abbrev S18432x4096 : Shape := ⟨2, ![18432, 4096]⟩
abbrev S4096x6144 : Shape := ⟨2, ![4096, 6144]⟩
abbrev S128 : Shape := ⟨1, ![128]⟩
abbrev S18432x32 : Shape := ⟨2, ![18432, 32]⟩
abbrev S18432x6144 : Shape := ⟨2, ![18432, 6144]⟩
abbrev S18432x1024 : Shape := ⟨2, ![18432, 1024]⟩
abbrev S18432x32x128 : Shape := ⟨3, ![18432, 32, 128]⟩
abbrev S_ : Shape := ⟨0, ![]⟩
abbrev S18432x32x1 : Shape := ⟨3, ![18432, 32, 1]⟩
abbrev S1x1x128 : Shape := ⟨3, ![1, 1, 128]⟩
abbrev S18432x32x64 : Shape := ⟨3, ![18432, 32, 64]⟩
abbrev S18432x1x32 : Shape := ⟨3, ![18432, 1, 32]⟩
abbrev S18432x32x32 : Shape := ⟨3, ![18432, 32, 32]⟩
abbrev S18432x8x128 : Shape := ⟨3, ![18432, 8, 128]⟩
abbrev S18432x8 : Shape := ⟨2, ![18432, 8]⟩
abbrev S18432x8x1 : Shape := ⟨3, ![18432, 8, 1]⟩
abbrev S18432x8x64 : Shape := ⟨3, ![18432, 8, 64]⟩
abbrev S18432x8x32 : Shape := ⟨3, ![18432, 8, 32]⟩

abbrev nBuf : Space → Nat
  | .hbm => 117
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x6144, .f32⟩
  | .hbm, ⟨2, _⟩ => ⟨S128, .f32⟩
  | .hbm, ⟨3, _⟩ => ⟨S128, .f32⟩
  | .hbm, ⟨4, _⟩ => ⟨S18432x32, .f32⟩
  | .hbm, ⟨5, _⟩ => ⟨S18432x32, .f32⟩
  | .hbm, ⟨6, _⟩ => ⟨S18432x32, .f32⟩
  | .hbm, ⟨7, _⟩ => ⟨S18432x32, .f32⟩
  | .hbm, ⟨8, _⟩ => ⟨S18432x4096, .f32⟩
  | .hbm, ⟨9, _⟩ => ⟨S18432x6144, .f32⟩
  | .hbm, ⟨10, _⟩ => ⟨S18432x4096, .f32⟩
  | .hbm, ⟨11, _⟩ => ⟨S18432x1024, .f32⟩
  | .hbm, ⟨12, _⟩ => ⟨S18432x1024, .f32⟩
  | .hbm, ⟨13, _⟩ => ⟨S18432x32x128, .f32⟩
  | .hbm, ⟨14, _⟩ => ⟨S18432x32x128, .f32⟩
  | .hbm, ⟨15, _⟩ => ⟨S_, .f32⟩
  | .hbm, ⟨16, _⟩ => ⟨S18432x32, .f32⟩
  | .hbm, ⟨17, _⟩ => ⟨S18432x32x1, .f32⟩
  | .hbm, ⟨18, _⟩ => ⟨S_, .f32⟩
  | .hbm, ⟨19, _⟩ => ⟨S18432x32x1, .f32⟩
  | .hbm, ⟨20, _⟩ => ⟨S18432x32x1, .f32⟩
  | .hbm, ⟨21, _⟩ => ⟨S_, .f32⟩
  | .hbm, ⟨22, _⟩ => ⟨S18432x32x1, .f32⟩
  | .hbm, ⟨23, _⟩ => ⟨S18432x32x1, .f32⟩
  | .hbm, ⟨24, _⟩ => ⟨S18432x32x1, .f32⟩
  | .hbm, ⟨25, _⟩ => ⟨S18432x32x128, .f32⟩
  | .hbm, ⟨26, _⟩ => ⟨S18432x32x128, .f32⟩
  | .hbm, ⟨27, _⟩ => ⟨S1x1x128, .f32⟩
  | .hbm, ⟨28, _⟩ => ⟨S18432x32x128, .f32⟩
  | .hbm, ⟨29, _⟩ => ⟨S18432x32x128, .f32⟩
  | .hbm, ⟨30, _⟩ => ⟨S18432x32x64, .f32⟩
  | .hbm, ⟨31, _⟩ => ⟨S18432x32x64, .f32⟩
  | .hbm, ⟨32, _⟩ => ⟨S18432x1x32, .f32⟩
  | .hbm, ⟨33, _⟩ => ⟨S18432x1x32, .f32⟩
  | .hbm, ⟨34, _⟩ => ⟨S18432x32x32, .f32⟩
  | .hbm, ⟨35, _⟩ => ⟨S18432x32x32, .f32⟩
  | .hbm, ⟨36, _⟩ => ⟨S18432x32x32, .f32⟩
  | .hbm, ⟨37, _⟩ => ⟨S18432x32x32, .f32⟩
  | .hbm, ⟨38, _⟩ => ⟨S18432x32x32, .f32⟩
  | .hbm, ⟨39, _⟩ => ⟨S18432x32x32, .f32⟩
  | .hbm, ⟨40, _⟩ => ⟨S18432x32x32, .f32⟩
  | .hbm, ⟨41, _⟩ => ⟨S18432x32x32, .f32⟩
  | .hbm, ⟨42, _⟩ => ⟨S18432x32x32, .f32⟩
  | .hbm, ⟨43, _⟩ => ⟨S18432x32x32, .f32⟩
  | .hbm, ⟨44, _⟩ => ⟨S18432x32x32, .f32⟩
  | .hbm, ⟨45, _⟩ => ⟨S18432x32x32, .f32⟩
  | .hbm, ⟨46, _⟩ => ⟨S18432x32x64, .f32⟩
  | .hbm, ⟨47, _⟩ => ⟨S18432x1x32, .f32⟩
  | .hbm, ⟨48, _⟩ => ⟨S18432x1x32, .f32⟩
  | .hbm, ⟨49, _⟩ => ⟨S18432x32x32, .f32⟩
  | .hbm, ⟨50, _⟩ => ⟨S18432x32x32, .f32⟩
  | .hbm, ⟨51, _⟩ => ⟨S18432x32x32, .f32⟩
  | .hbm, ⟨52, _⟩ => ⟨S18432x32x32, .f32⟩
  | .hbm, ⟨53, _⟩ => ⟨S18432x32x32, .f32⟩
  | .hbm, ⟨54, _⟩ => ⟨S18432x32x32, .f32⟩
  | .hbm, ⟨55, _⟩ => ⟨S18432x32x32, .f32⟩
  | .hbm, ⟨56, _⟩ => ⟨S18432x32x32, .f32⟩
  | .hbm, ⟨57, _⟩ => ⟨S18432x32x32, .f32⟩
  | .hbm, ⟨58, _⟩ => ⟨S18432x32x32, .f32⟩
  | .hbm, ⟨59, _⟩ => ⟨S18432x32x32, .f32⟩
  | .hbm, ⟨60, _⟩ => ⟨S18432x32x32, .f32⟩
  | .hbm, ⟨61, _⟩ => ⟨S18432x32x64, .f32⟩
  | .hbm, ⟨62, _⟩ => ⟨S18432x32x128, .f32⟩
  | .hbm, ⟨63, _⟩ => ⟨S18432x4096, .f32⟩
  | .hbm, ⟨64, _⟩ => ⟨S18432x8x128, .f32⟩
  | .hbm, ⟨65, _⟩ => ⟨S18432x8x128, .f32⟩
  | .hbm, ⟨66, _⟩ => ⟨S_, .f32⟩
  | .hbm, ⟨67, _⟩ => ⟨S18432x8, .f32⟩
  | .hbm, ⟨68, _⟩ => ⟨S18432x8x1, .f32⟩
  | .hbm, ⟨69, _⟩ => ⟨S_, .f32⟩
  | .hbm, ⟨70, _⟩ => ⟨S18432x8x1, .f32⟩
  | .hbm, ⟨71, _⟩ => ⟨S18432x8x1, .f32⟩
  | .hbm, ⟨72, _⟩ => ⟨S_, .f32⟩
  | .hbm, ⟨73, _⟩ => ⟨S18432x8x1, .f32⟩
  | .hbm, ⟨74, _⟩ => ⟨S18432x8x1, .f32⟩
  | .hbm, ⟨75, _⟩ => ⟨S18432x8x1, .f32⟩
  | .hbm, ⟨76, _⟩ => ⟨S18432x8x128, .f32⟩
  | .hbm, ⟨77, _⟩ => ⟨S18432x8x128, .f32⟩
  | .hbm, ⟨78, _⟩ => ⟨S1x1x128, .f32⟩
  | .hbm, ⟨79, _⟩ => ⟨S18432x8x128, .f32⟩
  | .hbm, ⟨80, _⟩ => ⟨S18432x8x128, .f32⟩
  | .hbm, ⟨81, _⟩ => ⟨S18432x8x64, .f32⟩
  | .hbm, ⟨82, _⟩ => ⟨S18432x8x64, .f32⟩
  | .hbm, ⟨83, _⟩ => ⟨S18432x1x32, .f32⟩
  | .hbm, ⟨84, _⟩ => ⟨S18432x1x32, .f32⟩
  | .hbm, ⟨85, _⟩ => ⟨S18432x8x32, .f32⟩
  | .hbm, ⟨86, _⟩ => ⟨S18432x8x32, .f32⟩
  | .hbm, ⟨87, _⟩ => ⟨S18432x8x32, .f32⟩
  | .hbm, ⟨88, _⟩ => ⟨S18432x8x32, .f32⟩
  | .hbm, ⟨89, _⟩ => ⟨S18432x8x32, .f32⟩
  | .hbm, ⟨90, _⟩ => ⟨S18432x8x32, .f32⟩
  | .hbm, ⟨91, _⟩ => ⟨S18432x8x32, .f32⟩
  | .hbm, ⟨92, _⟩ => ⟨S18432x8x32, .f32⟩
  | .hbm, ⟨93, _⟩ => ⟨S18432x8x32, .f32⟩
  | .hbm, ⟨94, _⟩ => ⟨S18432x8x32, .f32⟩
  | .hbm, ⟨95, _⟩ => ⟨S18432x8x32, .f32⟩
  | .hbm, ⟨96, _⟩ => ⟨S18432x8x32, .f32⟩
  | .hbm, ⟨97, _⟩ => ⟨S18432x8x64, .f32⟩
  | .hbm, ⟨98, _⟩ => ⟨S18432x1x32, .f32⟩
  | .hbm, ⟨99, _⟩ => ⟨S18432x1x32, .f32⟩
  | .hbm, ⟨100, _⟩ => ⟨S18432x8x32, .f32⟩
  | .hbm, ⟨101, _⟩ => ⟨S18432x8x32, .f32⟩
  | .hbm, ⟨102, _⟩ => ⟨S18432x8x32, .f32⟩
  | .hbm, ⟨103, _⟩ => ⟨S18432x8x32, .f32⟩
  | .hbm, ⟨104, _⟩ => ⟨S18432x8x32, .f32⟩
  | .hbm, ⟨105, _⟩ => ⟨S18432x8x32, .f32⟩
  | .hbm, ⟨106, _⟩ => ⟨S18432x8x32, .f32⟩
  | .hbm, ⟨107, _⟩ => ⟨S18432x8x32, .f32⟩
  | .hbm, ⟨108, _⟩ => ⟨S18432x8x32, .f32⟩
  | .hbm, ⟨109, _⟩ => ⟨S18432x8x32, .f32⟩
  | .hbm, ⟨110, _⟩ => ⟨S18432x8x32, .f32⟩
  | .hbm, ⟨111, _⟩ => ⟨S18432x8x32, .f32⟩
  | .hbm, ⟨112, _⟩ => ⟨S18432x8x64, .f32⟩
  | .hbm, ⟨113, _⟩ => ⟨S18432x8x128, .f32⟩
  | .hbm, ⟨114, _⟩ => ⟨S18432x1024, .f32⟩
  | .hbm, ⟨115, _⟩ => ⟨S18432x6144, .f32⟩
  | .hbm, ⟨116, _⟩ => ⟨S18432x6144, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_2 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩

abbrev nD : Nat := 1
abbrev τ : Topo := Topo.v7x

variable {F : FTy → Type} [FloatOps F]
-- ==== Proof.SwaPure.lean ====
module

public import Idealize.ShloMosaic.Lib.Pointwise
public import Idealize.ShloMosaic.Lib.Pipeline.ValueKit

/-! Windowed softmax over the extended reals: a softmax over all keys, `⊥` outside a window, is the softmax over the
    window. -/

@[expose] public section

set_option maxRecDepth 16384

noncomputable section

open Idealize.ShloMosaic

namespace Cert.Proof

/-- One query's output on one lane: context scores `cs`, window scores `ls`, their greatest `mx`, the sink's score `s`,
    and the lane of the context's and the window's values. -/
def headOut (cs : Fin 256 → EReal) (ls : Fin 384 → EReal) (mx s : EReal) (vc : Fin 256 → EReal) (v : Fin 384 → EReal) : EReal :=
  (∑ x, Ideal.exp (cs x - max mx s) * vc x + ∑ x, Ideal.exp (ls x - max mx s) * v x) *
    Ideal.div 1 (∑ x, Ideal.exp (cs x - max mx s) + ∑ x, Ideal.exp (ls x - max mx s) + Ideal.exp (s - max mx s))

/-- A value that is a real number. -/
def IsReal (x : EReal) : Prop := ∃ r : ℝ, x = (r : EReal)

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_add {x y : EReal} (hx : IsReal x) (hy : IsReal y) : IsReal (x + y) := by
  obtain ⟨a, rfl⟩ := hx; obtain ⟨b, rfl⟩ := hy; exact ⟨a + b, (EReal.coe_add a b).symm⟩

/-- The sum of reals, taken in the extended reals. -/
theorem coe_sum {ι : Type} [DecidableEq ι] (s : Finset ι) (r : ι → ℝ) : ∑ i ∈ s, (r i : EReal) = ((∑ i ∈ s, r i : ℝ) : EReal) := by
  induction s using Finset.induction_on with
  | empty => simp
  | insert a s h ih => rw [Finset.sum_insert h, Finset.sum_insert h, ih, EReal.coe_add]

theorem isReal_sum {n : Nat} (f : Fin n → EReal) (h : ∀ i, IsReal (f i)) : IsReal (∑ i, f i) := by
  choose r hr using h
  exact ⟨∑ i, r i, by rw [← coe_sum]; exact Finset.sum_congr rfl fun i _ => hr i⟩

theorem isReal_max {x y : EReal} (hx : IsReal x ∨ x = ⊥) (hy : IsReal y) : IsReal (max x y) := by
  rcases max_choice x y with h | h
  · rcases hx with hx | hx
    · rw [h]; exact hx
    · rw [hx, bot_sup_eq]; exact hy
  · rw [h]; exact hy

/-- Both ends agree: two values with the same upper bounds are one. -/
theorem eq_of_bounds {x y : EReal} (h : ∀ c, x ≤ c ↔ y ≤ c) : x = y :=
  le_antisymm ((h y).2 le_rfl) ((h x).1 le_rfl)

/-- A fold of `max` from `⊥` is below a bound exactly when every term is. -/
theorem fold_max_le_iff {n : Nat} (f : Fin n → EReal) (c : EReal) :
    Finset.univ.fold max ⊥ f ≤ c ↔ ∀ k, f k ≤ c := by
  rw [Finset.fold_max_le]; simp

/-- The greatest of terms each real or `⊥` is real or `⊥`. -/
theorem fold_max_real {n : Nat} (f : Fin n → EReal) (h : ∀ k, IsReal (f k) ∨ f k = ⊥) :
    IsReal (Finset.univ.fold max ⊥ f) ∨ Finset.univ.fold max ⊥ f = ⊥ := by
  generalize (Finset.univ : Finset (Fin n)) = s
  induction s using Finset.induction_on with
  | empty => right; simp
  | insert a s hs ih =>
    rw [Finset.fold_insert hs]
    rcases h a with ha | ha
    · left; rw [max_comm]; exact isReal_max ih ha
    · rw [ha, bot_sup_eq]; exact ih

/-- A sum over all keys is the sum over the window `384` wide that begins `128` before block `i`, when the terms agree
    inside and vanish outside. -/
theorem sum_window (i : Nat) (F : Fin 2048 → EReal) (F' : Fin 384 → EReal)
    (hin : ∀ (p : Fin 384) (j : Fin 2048), j.val + 128 = i * 128 + p.val → F' p = F j)
    (hl : ∀ p : Fin 384, (i * 128 + p.val < 128 ∨ 2176 ≤ i * 128 + p.val) → F' p = 0)
    (hr : ∀ j : Fin 2048, (j.val + 128 < i * 128 ∨ i * 128 + 384 ≤ j.val + 128) → F j = 0) :
    ∑ j, F j = ∑ p, F' p := by
  refine Finset.sum_bij_ne_zero (fun j _ hj => (⟨j.val + 128 - i * 128, ?_⟩ : Fin 384)) (fun _ _ _ => Finset.mem_univ _) ?_ ?_ ?_
  · by_contra hc
    exact hj (hr j (by omega))
  · intro a _ ha b _ hb e
    have h1 : ¬ (a.val + 128 < i * 128 ∨ i * 128 + 384 ≤ a.val + 128) := fun hc => ha (hr a hc)
    have h2 : ¬ (b.val + 128 < i * 128 ∨ i * 128 + 384 ≤ b.val + 128) := fun hc => hb (hr b hc)
    have h3 := congrArg Fin.val e
    simp only at h3
    exact Fin.ext (by omega)
  · intro p _ hp
    have h1 : ¬ (i * 128 + p.val < 128 ∨ 2176 ≤ i * 128 + p.val) := fun hc => hp (hl p hc)
    refine ⟨⟨i * 128 + p.val - 128, by omega⟩, Finset.mem_univ _, ?_, Fin.ext (by show i * 128 + p.val - 128 + 128 - i * 128 = p.val; omega)⟩
    rw [← hin p ⟨i * 128 + p.val - 128, by omega⟩ (by show i * 128 + p.val - 128 + 128 = _; omega)]
    exact hp
  · intro j _ hj
    have h1 : ¬ (j.val + 128 < i * 128 ∨ i * 128 + 384 ≤ j.val + 128) := fun hc => hj (hr j hc)
    exact (hin ⟨j.val + 128 - i * 128, by omega⟩ j (by show j.val + 128 = i * 128 + (j.val + 128 - i * 128); omega)).symm

/-- A real or `⊥` less a real has a real exponential, positive at a real. -/
theorem exp_sub_real {x M : EReal} (hx : IsReal x ∨ x = ⊥) (hM : IsReal M) : ∃ r : ℝ, 0 ≤ r ∧ Ideal.exp (x - M) = (r : EReal) := by
  obtain ⟨b, rfl⟩ := hM
  rcases hx with ⟨a, rfl⟩ | rfl
  · exact ⟨Real.exp (a - b), (Real.exp_pos _).le, by rw [← EReal.coe_sub]; rfl⟩
  · exact ⟨0, le_rfl, by rw [EReal.bot_sub]; rfl⟩

theorem exp_sub_pos {x M : EReal} (hx : IsReal x) (hM : IsReal M) : ∃ r : ℝ, 0 < r ∧ Ideal.exp (x - M) = (r : EReal) := by
  obtain ⟨b, rfl⟩ := hM
  obtain ⟨a, rfl⟩ := hx
  exact ⟨Real.exp (a - b), Real.exp_pos _, by rw [← EReal.coe_sub]; rfl⟩

/-- Dividing every probability by the sum before the values are mixed is dividing the mixture. -/
theorem mix_div (e : Fin 384 → ℝ) (ec : Fin 256 → ℝ) (v : Fin 384 → ℝ) (vc : Fin 256 → ℝ) (L : ℝ) (hL : L ≠ 0) :
    (∑ x, (v x : EReal) * Ideal.div (e x : EReal) (L : EReal)) + ∑ x, (vc x : EReal) * Ideal.div (ec x : EReal) (L : EReal)
      = (∑ x, (ec x : EReal) * (vc x : EReal) + ∑ x, (e x : EReal) * (v x : EReal)) * Ideal.div 1 (L : EReal) := by
  have hd : ∀ a : ℝ, Ideal.div (a : EReal) (L : EReal) = ((a / L : ℝ) : EReal) := fun a => by rw [Ideal.div_coe hL, ← EReal.coe_mul, mul_one_div]
  have h1 : Ideal.div 1 (L : EReal) = ((1 / L : ℝ) : EReal) := by rw [← hd]; rfl
  simp only [hd, h1, ← EReal.coe_mul, coe_sum, ← EReal.coe_add]
  congr 1
  rw [add_mul, Finset.sum_mul, Finset.sum_mul, add_comm]
  congr 1
  · exact Finset.sum_congr rfl fun x _ => by ring
  · exact Finset.sum_congr rfl fun x _ => by ring

/-- The softmax over all 2048 keys, the 256 context keys and the sink, taken with the greatest score `M` of all of them,
    is the softmax over the window, the context keys and the sink. -/
theorem window_softmax (i : Nat) (a : Fin 2048 → EReal) (a' : Fin 384 → EReal) (cs : Fin 256 → EReal) (s : EReal)
    (v : Fin 2048 → EReal) (v' : Fin 384 → EReal) (vc : Fin 256 → EReal) (M : EReal)
    (ha' : ∀ p, IsReal (a' p) ∨ a' p = ⊥) (hcs : ∀ x, IsReal (cs x)) (hs : IsReal s)
    (hv' : ∀ p, IsReal (v' p)) (hvc : ∀ x, IsReal (vc x))
    (hin : ∀ (p : Fin 384) (j : Fin 2048), j.val + 128 = i * 128 + p.val → a' p = a j ∧ v' p = v j)
    (hl : ∀ p : Fin 384, (i * 128 + p.val < 128 ∨ 2176 ≤ i * 128 + p.val) → a' p = ⊥)
    (hr : ∀ j : Fin 2048, (j.val + 128 < i * 128 ∨ i * 128 + 384 ≤ j.val + 128) → a j = ⊥)
    (hM : ∀ c, M ≤ c ↔ (∀ j, a j ≤ c) ∧ (∀ x, cs x ≤ c) ∧ s ≤ c) :
    (∑ j, v j * Ideal.div (Ideal.exp (a j - M)) (∑ j, Ideal.exp (a j - M) + (∑ x, Ideal.exp (cs x - M) + Ideal.exp (s - M))))
      + ∑ x, vc x * Ideal.div (Ideal.exp (cs x - M)) (∑ j, Ideal.exp (a j - M) + (∑ x, Ideal.exp (cs x - M) + Ideal.exp (s - M)))
      = headOut cs a' (max (Finset.univ.fold max ⊥ cs) (Finset.univ.fold max ⊥ a')) s vc v' := by
  have hmx : max (max (Finset.univ.fold max ⊥ cs) (Finset.univ.fold max ⊥ a')) s = M := by
    refine eq_of_bounds fun c => ?_
    rw [hM, max_le_iff, max_le_iff, fold_max_le_iff, fold_max_le_iff]
    constructor
    · rintro ⟨⟨h1, h2⟩, h3⟩
      refine ⟨fun j => ?_, h1, h3⟩
      by_cases hj : j.val + 128 < i * 128 ∨ i * 128 + 384 ≤ j.val + 128
      · rw [hr j hj]; exact bot_le
      · rw [← (hin ⟨j.val + 128 - i * 128, by omega⟩ j (by show j.val + 128 = i * 128 + (j.val + 128 - i * 128); omega)).1]
        exact h2 _
    · rintro ⟨h1, h2, h3⟩
      refine ⟨⟨h2, fun p => ?_⟩, h3⟩
      by_cases hp : i * 128 + p.val < 128 ∨ 2176 ≤ i * 128 + p.val
      · rw [hl p hp]; exact bot_le
      · rw [(hin p ⟨i * 128 + p.val - 128, by omega⟩ (by show i * 128 + p.val - 128 + 128 = _; omega)).1]
        exact h1 _
  have hMr : IsReal M := by
    rw [← hmx]
    refine isReal_max ?_ hs
    rcases max_choice (Finset.univ.fold max ⊥ cs) (Finset.univ.fold max ⊥ a') with h | h
    · rw [h]; exact fold_max_real cs fun k => Or.inl (hcs k)
    · rw [h]; exact fold_max_real a' ha'
  have hbot : Ideal.exp ((⊥ : EReal) - M) = 0 := by
    obtain ⟨b, rfl⟩ := hMr; rw [EReal.bot_sub]; rfl
  unfold headOut
  rw [hmx]
  have hsum : ∑ j, Ideal.exp (a j - M) = ∑ p, Ideal.exp (a' p - M) :=
    sum_window i _ _ (fun p j h => by rw [(hin p j h).1]) (fun p h => by rw [hl p h, hbot]) (fun j h => by rw [hr j h, hbot])
  rw [hsum]
  generalize hL : ∑ p, Ideal.exp (a' p - M) + (∑ x, Ideal.exp (cs x - M) + Ideal.exp (s - M)) = L
  have hL' : ∑ x, Ideal.exp (cs x - M) + ∑ p, Ideal.exp (a' p - M) + Ideal.exp (s - M) = L := by
    rw [← hL, add_comm (∑ x, Ideal.exp (cs x - M)), add_assoc]
  rw [hL']
  choose e he0 he using fun p => exp_sub_real (ha' p) hMr
  choose ec hec0 hec using fun x => exp_sub_real (Or.inl (hcs x)) hMr
  obtain ⟨es, hes0, hes⟩ := exp_sub_pos hs hMr
  choose w hw using hv'
  choose wc hwc using hvc
  simp only [he, hec, hes, coe_sum, ← EReal.coe_add] at hL
  have hpos : 0 < ∑ i, e i + (∑ i, ec i + es) :=
    add_pos_of_nonneg_of_pos (Finset.sum_nonneg fun p _ => he0 p) (add_pos_of_nonneg_of_pos (Finset.sum_nonneg fun p _ => hec0 p) hes0)
  have hzero : Ideal.div 0 L = 0 := by
    rw [← hL, ← EReal.coe_zero, Ideal.div_coe hpos.ne', EReal.coe_zero, zero_mul]
  have hnum : ∑ j, v j * Ideal.div (Ideal.exp (a j - M)) L = ∑ p, v' p * Ideal.div (Ideal.exp (a' p - M)) L :=
    sum_window i _ _ (fun p j h => by rw [(hin p j h).1, (hin p j h).2]) (fun p h => by rw [hl p h, hbot, hzero, mul_zero])
      (fun j h => by rw [hr j h, hbot, hzero, mul_zero])
  rw [hnum]
  rw [← hL]
  simp only [he, hec, hw, hwc]
  exact mix_div e ec w wc _ hpos.ne'

end Cert.Proof

end
-- ==== Proof.SwaRef.lean ====
module

public import proofs.«01_k».proof.Proof.Gen.SwaRefIdeal.Run
public import Idealize.ShloMosaic.Lib.Pointwise
public import Idealize.ShloMosaic.Lib.WordCmp
public import proofs.«01_k».proof.Proof.SwaPure
public import Idealize.ShloMosaic.Lib.Pipeline.ValueKit

@[expose] public section

set_option maxRecDepth 16384

noncomputable section

open Idealize.ShloMosaic Idealize.ShloMosaic.TcCoe Idealize.SL.Sem

namespace Cert.SwaRefIdeal.Value

open Cert.SwaRefIdeal Cert.SwaRefIdeal.Gen

/-- The scores of a query against its 2048 latent keys (`⊥` outside the window), the 256 context keys and the sink. -/
def scores (X : FVec Ideal S18432x6144 .bf16) (sink : FVec Ideal S32 .f32) : FVec Ideal S8x8x4x2048x2305 .f32 :=
  concatenate S8x8x4x2048x2305 4 [⟨S8x8x4x2048x2048, ((select (broadcastInDim S8x8x4x2048x2048 ![3, 4] bcast_S2048x2048_S8x8x4x2048x2048_3_4 (cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32)))) (mulf (transpose S8x8x4x2048x2048 [0, 1, 4, 3, 2] (Host.dotGeneral dot_S8x2048x8x128_S8x2048x8x4x128_S8x8x2048x2048x4_3_4_1_13_02_02 none (shapeCast _ (extractStridedSlice S16384x1024 ![0, 4096] (extractStridedSlice S16384x6144 ![0, 0] (extf .f32 X bitsLt_bf16_f32) slices_S18432x6144_S16384x6144_0_0) slices_S16384x6144_S16384x1024_0_4096) shapeCasts_S16384x1024_S8x2048x8x128) (shapeCast _ (extractStridedSlice S16384x4096 ![0, 0] (extractStridedSlice S16384x6144 ![0, 0] (extf .f32 X bitsLt_bf16_f32) slices_S18432x6144_S16384x6144_0_0) slices_S16384x6144_S16384x4096_0_0) shapeCasts_S16384x4096_S8x2048x8x4x128)) transposes_S8x8x2048x2048x4_S8x8x4x2048x2048_0_1_4_3_2) (broadcastInDim S8x8x4x2048x2048 ![] bcast_S_S8x8x4x2048x2048 (constant S_ .f32 0x3DB504F3#32))) (broadcastInDim S8x8x4x2048x2048 ![] bcast_S_S8x8x4x2048x2048 (constant (F := Ideal) S_ .f32 0xFF800000#32))) : (⟨S8x8x4x2048x2048, .f32⟩ : BufTy).Contents (Elt Ideal))⟩, ⟨S8x8x4x2048x256, ((mulf (transpose S8x8x4x2048x256 [0, 1, 4, 3, 2] (Host.dotGeneral dot_S8x256x8x128_S8x2048x8x4x128_S8x8x256x2048x4_3_4_1_13_02_02 none (shapeCast _ (extractStridedSlice S2048x1024 ![0, 4096] (extractStridedSlice S2048x6144 ![16384, 0] (extf .f32 X bitsLt_bf16_f32) slices_S18432x6144_S2048x6144_16384_0) slices_S2048x6144_S2048x1024_0_4096) shapeCasts_S2048x1024_S8x256x8x128) (shapeCast _ (extractStridedSlice S16384x4096 ![0, 0] (extractStridedSlice S16384x6144 ![0, 0] (extf .f32 X bitsLt_bf16_f32) slices_S18432x6144_S16384x6144_0_0) slices_S16384x6144_S16384x4096_0_0) shapeCasts_S16384x4096_S8x2048x8x4x128)) transposes_S8x8x256x2048x4_S8x8x4x2048x256_0_1_4_3_2) (broadcastInDim S8x8x4x2048x256 ![] bcast_S_S8x8x4x2048x256 (constant S_ .f32 0x3DB504F3#32))) : (⟨S8x8x4x2048x256, .f32⟩ : BufTy).Contents (Elt Ideal))⟩, ⟨S8x8x4x2048x1, ((broadcastInDim S8x8x4x2048x1 ![0, 1, 2, 3, 4] bcast_S1x8x4x1x1_S8x8x4x2048x1_0_1_2_3_4 (broadcastInDim S1x8x4x1x1 ![1, 2] bcast_S8x4_S1x8x4x1x1_1_2 (shapeCast _ sink shapeCasts_S32_S8x4))) : (⟨S8x8x4x2048x1, .f32⟩ : BufTy).Contents (Elt Ideal))⟩] concatenates_S8x8x4x2048x2048_S8x8x4x2048x256_S8x8x4x2048x1_S8x8x4x2048x2305_d4

/-- The greatest score of every query. -/
def rowMax (S : FVec Ideal S8x8x4x2048x2305 .f32) : FVec Ideal S8x8x4x2048 .f32 :=
  maximumf (broadcastInDim S8x8x4x2048 ![] bcast_S_S8x8x4x2048 (constant S_ .f32 0xFF800000#32)) (Host.reduce FloatOps.maximumf (S) (constant S_ .f32 0xFF800000#32) reducesTo_S8x8x4x2048x2305_S8x8x4x2048_d4 h_S_)

/-- The exponentials of the scores less their greatest. -/
def expo (S : FVec Ideal S8x8x4x2048x2305 .f32) : FVec Ideal S8x8x4x2048x2305 .f32 :=
  Host.exp (subf (S) (broadcastInDim S8x8x4x2048x2305 ![0, 1, 2, 3, 4] bcast_S8x8x4x2048x1_S8x8x4x2048x2305_0_1_2_3_4 (broadcastInDim S8x8x4x2048x1 ![0, 1, 2, 3] bcast_S8x8x4x2048_S8x8x4x2048x1_0_1_2_3 (rowMax S))))

/-- The exponentials over their sum. -/
def probs (E : FVec Ideal S8x8x4x2048x2305 .f32) : FVec Ideal S8x8x4x2048x2305 .f32 :=
  Host.divf (E) (broadcastInDim S8x8x4x2048x2305 ![0, 1, 2, 3, 4] bcast_S8x8x4x2048x1_S8x8x4x2048x2305_0_1_2_3_4 (broadcastInDim S8x8x4x2048x1 ![0, 1, 2, 3] bcast_S8x8x4x2048_S8x8x4x2048x1_0_1_2_3 (Host.reduceAdd (E) (constant S_ .f32 0x00000000#32) reducesTo_S8x8x4x2048x2305_S8x8x4x2048_d4 h_S_)))

/-- The values mixed by the probabilities, heads side by side. -/
def mix (X : FVec Ideal S18432x6144 .bf16) (P : FVec Ideal S8x8x4x2048x2305 .f32) : FVec Ideal S16384x4096 .bf16 :=
  truncf .bf16 (shapeCast _ (addf (transpose S8x2048x8x4x128 [0, 4, 1, 3, 2] (Host.dotGeneral dot_S8x2048x8x128_S8x8x4x2048x2048_S8x8x128x4x2048_1_4_3_23_02_01 none (shapeCast _ (extractStridedSlice S16384x1024 ![0, 5120] (extractStridedSlice S16384x6144 ![0, 0] (extf .f32 X bitsLt_bf16_f32) slices_S18432x6144_S16384x6144_0_0) slices_S16384x6144_S16384x1024_0_5120) shapeCasts_S16384x1024_S8x2048x8x128) (extractStridedSlice S8x8x4x2048x2048 ![0, 0, 0, 0, 0] P slices_S8x8x4x2048x2305_S8x8x4x2048x2048_0_0_0_0_0)) transposes_S8x8x128x4x2048_S8x2048x8x4x128_0_4_1_3_2) (transpose S8x2048x8x4x128 [0, 4, 1, 3, 2] (Host.dotGeneral dot_S8x256x8x128_S8x8x4x2048x256_S8x8x128x4x2048_1_4_3_23_02_01 none (shapeCast _ (extractStridedSlice S2048x1024 ![0, 5120] (extractStridedSlice S2048x6144 ![16384, 0] (extf .f32 X bitsLt_bf16_f32) slices_S18432x6144_S2048x6144_16384_0) slices_S2048x6144_S2048x1024_0_5120) shapeCasts_S2048x1024_S8x256x8x128) (extractStridedSlice S8x8x4x2048x256 ![0, 0, 0, 0, 2048] P slices_S8x8x4x2048x2305_S8x8x4x2048x256_0_0_0_0_2048)) transposes_S8x8x128x4x2048_S8x2048x8x4x128_0_4_1_3_2)) shapeCasts_S8x2048x8x4x128_S16384x4096) bitsLt_bf16_f32

/-- A score before the mask: the product of key row `r` and query `q`, scaled. -/
def dotScore (X : FVec Ideal S18432x6144 .bf16) (b k : Fin 8) (g : Fin 4) (q : Fin 2048) (r : Fin 18432) : EReal :=
  (∑ x : Fin 128, X (ix2 r ⟨4096 + (k.val * 128 + x.val), by omega⟩) * X (ix2 ⟨b.val * 2048 + q.val, by omega⟩ ⟨k.val * 512 + g.val * 128 + x.val, by omega⟩)) *
    Ideal.ofBits .f32 1035273459#32

/-- The score of a latent key: `⊥` farther than 128 away. -/
def locScore (X : FVec Ideal S18432x6144 .bf16) (b k : Fin 8) (g : Fin 4) (q j : Fin 2048) : EReal :=
  if q.val ≤ j.val + 128 ∧ j.val ≤ q.val + 128 then dotScore X b k g q ⟨b.val * 2048 + j.val, by omega⟩ else ⊥

/-- The score of a context key. -/
def ctxScore (X : FVec Ideal S18432x6144 .bf16) (b k : Fin 8) (g : Fin 4) (q : Fin 2048) (j : Fin 256) : EReal :=
  dotScore X b k g q ⟨16384 + (b.val * 256 + j.val), by omega⟩

theorem ofBits_bot : Ideal.ofBits .f32 4286578688#32 = ⊥ := by
  simp [Ideal.ofBits, Ideal.ieee]

/-- The window's test on words is the test on numbers. -/
theorem near_word (q j : Fin 2048) :
    IntOp.cmpi CmpIPredicate.sle (IntOp.absi (IntOp.subi (BitVec.ofNat 32 q.val) (BitVec.ofNat 32 j.val))) 128#32
      = BitVec.ofBool (decide (q.val ≤ j.val + 128 ∧ j.val ≤ q.val + 128)) := by
  have h1 := q.isLt
  have h2 := j.isLt
  have eq : (BitVec.ofNat 32 q.val).toInt = (q.val : Int) := by
    rw [BitVec.toInt_eq_toNat_of_lt (by rw [BitVec.toNat_ofNat]; omega), BitVec.toNat_ofNat]; omega
  have ej : (BitVec.ofNat 32 j.val).toInt = (j.val : Int) := by
    rw [BitVec.toInt_eq_toNat_of_lt (by rw [BitVec.toNat_ofNat]; omega), BitVec.toNat_ofNat]; omega
  have e : (BitVec.ofNat 32 q.val - BitVec.ofNat 32 j.val).toInt = (q.val : Int) - j.val := by
    rw [BitVec.toInt_sub, eq, ej]; simp only [Int.bmod_def]; omega
  have ea : (IntOp.absi (IntOp.subi (BitVec.ofNat 32 q.val) (BitVec.ofNat 32 j.val))).toInt = |(q.val : Int) - j.val| := by
    unfold IntOp.absi IntOp.subi
    rw [BitVec.msb_eq_toInt, e]
    by_cases hn : (q.val : Int) - j.val < 0
    · rw [decide_eq_true hn, if_pos rfl, BitVec.toInt_neg, e, abs_of_neg hn]; simp only [Int.bmod_def]; omega
    · rw [decide_eq_false hn, if_neg Bool.false_ne_true, e, abs_of_nonneg (by omega)]
  have e2 : (128#32 : BitVec 32).toInt = 128 := by decide
  rw [WordCmp.cmpi_sle_eq, ea, e2]
  congr 1
  rw [decide_eq_decide, abs_le]
  omega

theorem scores_loc (X : FVec Ideal S18432x6144 .bf16) (sink : FVec Ideal S32 .f32) (b k : Fin 8) (g : Fin 4) (q : Fin 2048) (j : Fin 2048) :
    scores X sink (ix5 b k g q ⟨j.val, by omega⟩) = locScore X b k g q j := by
  pointwise [scores]
  rw [ofBits_bot]
  rw [near_word q j]
  unfold locScore dotScore
  by_cases h : q.val ≤ j.val + 128 ∧ j.val ≤ q.val + 128
  · rw [if_pos h, decide_eq_true h]; rfl
  · rw [if_neg h, decide_eq_false h]; rfl

theorem scores_ctx (X : FVec Ideal S18432x6144 .bf16) (sink : FVec Ideal S32 .f32) (b k : Fin 8) (g : Fin 4) (q : Fin 2048) (j : Fin 256) :
    scores X sink (ix5 b k g q ⟨2048 + j.val, by omega⟩) = ctxScore X b k g q j := by
  pointwise [scores]
  unfold ctxScore dotScore
  rfl

theorem scores_sink (X : FVec Ideal S18432x6144 .bf16) (sink : FVec Ideal S32 .f32) (b k : Fin 8) (g : Fin 4) (q : Fin 2048) :
    scores X sink (ix5 b k g q ⟨2304, by omega⟩) = sink (ix1 ⟨k.val * 4 + g.val, by omega⟩) := by
  pointwise [scores]

/-- A maximum over one axis is below a bound exactly when its start and every element on the axis are. -/
theorem reduce_le {s t u : Shape} {a : Fin s.rank} (x : s.Idx → EReal) (init : u.Idx → EReal) (h' : s.ReducesTo [a] t) (h : s.Reduces [a] t)
    (hu : 0 < u.numel) (j : t.Idx) (c : EReal) :
    Host.reduce (FloatOps.maximumf (F := Ideal) (φ := .f32)) x init h' hu j ≤ c ↔ init (Shape.Idx.first hu) ≤ c ∧ ∀ k, x (h.lift j k) ≤ c := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold_single _ x init h' h hu j]
  have e : ∀ (n : Nat) (f : Fin n → EReal) (b : EReal), Finset.univ.fold (FloatOps.maximumf (F := Ideal) (φ := .f32)) b f = Finset.univ.fold max b f :=
    fun n f b => rfl
  rw [e, Finset.fold_max_le]
  simp

/-- The greatest score is below a bound exactly when every score is. -/
theorem rowMax_le (S : FVec Ideal S8x8x4x2048x2305 .f32) (b k : Fin 8) (g : Fin 4) (q : Fin 2048) (c : EReal) :
    rowMax S (ix4 b k g q) ≤ c ↔ ∀ j : Fin 2305, S (ix5 b k g q j) ≤ c := by
  have h : S8x8x4x2048x2305.Reduces [4] S8x8x4x2048 := by decide +kernel
  have e : rowMax S (ix4 b k g q) = max ⊥ (Host.reduce (FloatOps.maximumf (F := Ideal) (φ := .f32)) S (constant (F := Ideal) S_ .f32 0xFF800000#32) reducesTo_S8x8x4x2048x2305_S8x8x4x2048_d4 h_S_ (ix4 b k g q)) := by
    have hm : ∀ (A B : FVec Ideal S8x8x4x2048 .f32) (j : S8x8x4x2048.Idx), maximumf A B j = max (A j : EReal) (B j) := fun _ _ _ => rfl
    have hb : ∀ j, broadcastInDim S8x8x4x2048 ![] bcast_S_S8x8x4x2048 (constant (F := Ideal) S_ .f32 0xFF800000#32) j = (⊥ : EReal) := fun _ => ofBits_bot
    unfold rowMax
    rw [hm, hb]
  rw [e, bot_sup_eq, reduce_le S _ _ h _ _ c]
  have e0 : constant (F := Ideal) S_ .f32 0xFF800000#32 (Shape.Idx.first h_S_) = (⊥ : EReal) := ofBits_bot
  rw [e0]
  have el : ∀ j, h.lift (ix4 b k g q) j = (ix5 b k g q j : S8x8x4x2048x2305.Idx) := by
    intro j
    funext a
    fin_cases a <;> rfl
  constructor
  · intro hh j
    exact (congrArg S (el j)).ge.trans (hh.2 j)
  · exact fun hh => ⟨bot_le, fun j => (congrArg S (el j)).le.trans (hh j)⟩

theorem expo_at (S : FVec Ideal S8x8x4x2048x2305 .f32) (b k : Fin 8) (g : Fin 4) (q : Fin 2048) (j : Fin 2305) :
    expo S (ix5 b k g q j) = Ideal.exp (S (ix5 b k g q j) - rowMax S (ix4 b k g q)) := by
  pointwise [expo]

theorem probs_at (E : FVec Ideal S8x8x4x2048x2305 .f32) (b k : Fin 8) (g : Fin 4) (q : Fin 2048) (j : Fin 2305) :
    probs E (ix5 b k g q j) = Ideal.div (E (ix5 b k g q j)) (∑ x, E (ix5 b k g q x)) := by
  pointwise [probs]

theorem mix_at (X : FVec Ideal S18432x6144 .bf16) (P : FVec Ideal S8x8x4x2048x2305 .f32) (r : Fin 16384) (l : Fin 4096)
    (b k : Fin 8) (g : Fin 4) (q : Fin 2048) (d : Fin 128) (hb : b.val = r.val / 2048) (hq : q.val = r.val % 2048) (hk : k.val = l.val / 512)
    (hg : g.val = l.val / 128 % 4) (hd : d.val = l.val % 128) :
    mix X P (ix2 r l) = ∑ x : Fin 2048, X (ix2 ⟨b.val * 2048 + x.val, by omega⟩ ⟨5120 + (k.val * 128 + d.val), by omega⟩) * P (ix5 b k g q ⟨x.val, by omega⟩)
      + ∑ x : Fin 256, X (ix2 ⟨16384 + (b.val * 256 + x.val), by omega⟩ ⟨5120 + (k.val * 128 + d.val), by omega⟩) * P (ix5 b k g q ⟨2048 + x.val, by omega⟩) := by
  obtain ⟨b, hb'⟩ := b
  obtain ⟨q, hq'⟩ := q
  obtain ⟨k, hk'⟩ := k
  obtain ⟨g, hg'⟩ := g
  obtain ⟨d, hd'⟩ := d
  simp only at hb hq hk hg hd
  subst hb hq hk hg hd
  pointwise [mix]

/-- A sum over all 2305 scores is the sum over the latent keys, the context keys and the sink. -/
theorem sum_cut {N a e : Nat} (h : N = a + (e + 1)) (f : Fin N → EReal) :
    ∑ j, f j = ∑ j : Fin a, f ⟨j.val, by omega⟩ + (∑ j : Fin e, f ⟨a + j.val, by omega⟩ + f ⟨a + e, by omega⟩) := by
  subst h
  rw [Fin.sum_univ_add, Fin.sum_univ_castSucc]
  rfl

/-- The attention, from the joint queries, keys and values and the sinks. -/
abbrev attn (X : FVec Ideal S18432x6144 .bf16) (sink : FVec Ideal S32 .f32) : FVec Ideal S16384x4096 .bf16 :=
  mix X (probs (expo (scores X sink)))

/-- One element of the attention, by its scores. -/
theorem attn_at (X : FVec Ideal S18432x6144 .bf16) (sink : FVec Ideal S32 .f32) (r : Fin 16384) (l : Fin 4096)
    (b k : Fin 8) (g : Fin 4) (q : Fin 2048) (d : Fin 128) (hb : b.val = r.val / 2048) (hq : q.val = r.val % 2048) (hk : k.val = l.val / 512)
    (hg : g.val = l.val / 128 % 4) (hd : d.val = l.val % 128) : ∃ M : EReal,
    (∀ c, M ≤ c ↔ (∀ j, locScore X b k g q j ≤ c) ∧ (∀ x, ctxScore X b k g q x ≤ c) ∧ sink (ix1 ⟨k.val * 4 + g.val, by omega⟩) ≤ c) ∧
    attn X sink (ix2 r l)
      = (∑ j : Fin 2048, X (ix2 ⟨b.val * 2048 + j.val, by omega⟩ ⟨5120 + (k.val * 128 + d.val), by omega⟩) * Ideal.div (Ideal.exp (locScore X b k g q j - M))
          (∑ j, Ideal.exp (locScore X b k g q j - M) + (∑ x, Ideal.exp (ctxScore X b k g q x - M) + Ideal.exp (sink (ix1 ⟨k.val * 4 + g.val, by omega⟩) - M))))
        + ∑ x : Fin 256, X (ix2 ⟨16384 + (b.val * 256 + x.val), by omega⟩ ⟨5120 + (k.val * 128 + d.val), by omega⟩) * Ideal.div (Ideal.exp (ctxScore X b k g q x - M))
          (∑ j, Ideal.exp (locScore X b k g q j - M) + (∑ x, Ideal.exp (ctxScore X b k g q x - M) + Ideal.exp (sink (ix1 ⟨k.val * 4 + g.val, by omega⟩) - M))) := by
  refine ⟨rowMax (scores X sink) (ix4 b k g q), fun c => ?_, ?_⟩
  · rw [rowMax_le]
    constructor
    · intro h
      exact ⟨fun j => by rw [← scores_loc X sink]; exact h _, fun x => by rw [← scores_ctx X sink]; exact h _, by rw [← scores_sink X sink b k g q]; exact h _⟩
    · rintro ⟨h1, h2, h3⟩ j
      by_cases c1 : j.val < 2048
      · have := h1 ⟨j.val, c1⟩; rwa [← scores_loc X sink] at this
      by_cases c2 : j.val < 2304
      · have := h2 ⟨j.val - 2048, by omega⟩
        rw [← scores_ctx X sink] at this
        have e : (⟨2048 + (j.val - 2048), by omega⟩ : Fin 2305) = j := Fin.ext (by show 2048 + (j.val - 2048) = _; omega)
        simp only at this
        rwa [e] at this
      · have e : (⟨2304, by omega⟩ : Fin 2305) = j := Fin.ext (by show 2304 = _; omega)
        rw [← scores_sink X sink b k g q, e] at h3
        exact h3
  · show mix X (probs (expo (scores X sink))) (ix2 r l) = _
    rw [mix_at X _ r l b k g q d hb hq hk hg hd]
    simp only [probs_at, expo_at]
    rw [sum_cut (N := 2305) (a := 2048) (e := 256) rfl]
    have es : scores X sink (ix5 b k g q ⟨2048 + 256, by omega⟩) = sink (ix1 ⟨k.val * 4 + g.val, by omega⟩) := scores_sink X sink b k g q
    simp only [scores_loc, scores_ctx, es]

end Cert.SwaRefIdeal.Value

end
-- ==== Proof.SwaPay.lean ====
module

public import proofs.«01_k».proof.Proof.SwaPure
public import proofs.«01_k».proof.Proof.Gen.SwaIdeal.Skeleton
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.SwaIdeal.Value

open Cert.SwaIdeal Cert.SwaIdeal.Gen

theorem ofBits_bot : Ideal.ofBits .f32 4286578688#32 = ⊥ := by
  simp [Ideal.ofBits, Ideal.ieee]

/-- Three stacked blocks of 128 rows, read at a row. -/
def cat3 (a b c : FVec Ideal S128x128 .bf16) (p : Fin 384) (d : Fin 128) : EReal :=
  if h : p.val < 128 then a (ix2 ⟨p.val, h⟩ d)
  else if h : p.val - 128 < 128 then b (ix2 ⟨p.val - 128, h⟩ d) else c (ix2 ⟨p.val - 128 - 128, by omega⟩ d)

/-- Row `g * 128 + q` of the stacked queries is lane group `g` of query `q`. -/
theorem pay2_at (v0 : FVec Ideal S128x512 .bf16) (R : Fin 512) (x : Fin 128) (q : Fin 128) (l : Fin 512)
    (hq : q.val = R.val % 128) (hl : l.val = R.val / 128 * 128 + x.val) :
    k0_pay2 (F := Ideal) v0 (ix2 R x) = v0 (ix2 q l) := by
  pointwise [k0_pay2]
  by_cases h0 : R.val < 128
  · rw [dif_pos h0]
    congr 2
    · exact Fin.ext (by show R.val = _; omega)
    · exact Fin.ext (by show x.val = _; omega)
  rw [dif_neg h0]
  by_cases h1 : R.val - 128 < 128
  · rw [dif_pos h1]
    congr 2
    · exact Fin.ext (by show R.val - 128 = _; omega)
    · exact Fin.ext (by show 128 + x.val = _; omega)
  rw [dif_neg h1]
  by_cases h2 : R.val - 128 - 128 < 128
  · rw [dif_pos h2]
    congr 2
    · exact Fin.ext (by show R.val - 128 - 128 = _; omega)
    · exact Fin.ext (by show 256 + x.val = _; omega)
  · rw [dif_neg h2]
    congr 2
    · exact Fin.ext (by show R.val - 128 - 128 - 128 = _; omega)
    · exact Fin.ext (by show 384 + x.val = _; omega)

/-- A context score of the tile. -/
theorem pay3_at (v0 : FVec Ideal S128x512 .bf16) (v6 : FVec Ideal S256x128 .bf16) (R : Fin 512) (j : Fin 256) :
    k0_pay3 (F := Ideal) v0 v6 (ix2 R j) = (∑ x, k0_pay2 (F := Ideal) v0 (ix2 R x) * v6 (ix2 j x)) * Ideal.ofBits .f32 1035273459#32 := by
  pointwise [k0_pay3]

theorem pay4_at (v0 : FVec Ideal S128x512 .bf16) (v6 : FVec Ideal S256x128 .bf16) (R : Fin 512) :
    k0_pay4 (F := Ideal) v0 v6 (ix2 R 0) = Finset.univ.fold max ⊥ (fun x => k0_pay3 (F := Ideal) v0 v6 (ix2 R x)) := by
  pointwise [k0_pay4]
  rw [ofBits_bot]

/-- A score of the tile against its three key blocks. -/
theorem pay6_at (v0 : FVec Ideal S128x512 .bf16) (v12 v13 v14 : FVec Ideal S128x128 .bf16) (R : Fin 512) (p : Fin 384) :
    k0_pay6 (F := Ideal) v0 v12 v13 v14 (ix2 R p) = (∑ x, k0_pay2 (F := Ideal) v0 (ix2 R x) * cat3 v12 v13 v14 p x) * Ideal.ofBits .f32 1035273459#32 := by
  pointwise [k0_pay6]
  rfl

theorem pay5_at (v12 v13 v14 : FVec Ideal S128x128 .bf16) (p : Fin 384) (d : Fin 128) :
    k0_pay5 (F := Ideal) v12 v13 v14 (ix2 p d) = cat3 v12 v13 v14 p d := by
  pointwise [k0_pay5]
  rfl

/-- The column number less the 128 before the block. -/
theorem pay7_at (p : Fin 384) : k0_pay7 (ix2 0 p) = IntOp.subi (BitVec.ofNat 32 p.val) 128#32 := by
  pointwise [k0_pay7]

/-- The query's number in its block. -/
theorem pay8_at (R : Fin 512) : k0_pay8 (ix2 R 0) = BitVec.ofNat 32 (R.val % 128) := by
  pointwise [k0_pay8]
  revert R
  decide +kernel

theorem row_word (R : Fin 512) :
    (Scalar.select
      (IntOp.andi
        (IntOp.xori (IntOp.cmpi CmpIPredicate.slt (BitVec.ofNat 32 (R.val % 128)) 0#32)
          (Scalar.cmpi CmpIPredicate.slt 128#32 0#32))
        (IntOp.cmpi CmpIPredicate.ne (BitVec.ofNat 32 (R.val % 128)) 0#32))
      (IntOp.addi (BitVec.ofNat 32 (R.val % 128)) 128#32) (BitVec.ofNat 32 (R.val % 128))) = BitVec.ofNat 32 (R.val % 128) := by
  revert R
  decide +kernel

/-- The distance of column `p` from query `r`, as a word, and its bounds. -/
theorem dist_word (r : Nat) (hr : r < 128) (p : Fin 384) :
    IntOp.andi (IntOp.cmpi CmpIPredicate.sge (IntOp.subi (IntOp.subi (BitVec.ofNat 32 p.val) 128#32) (BitVec.ofNat 32 r)) 4294967168#32)
      (IntOp.cmpi CmpIPredicate.sle (IntOp.subi (IntOp.subi (BitVec.ofNat 32 p.val) 128#32) (BitVec.ofNat 32 r)) 128#32)
      = BitVec.ofBool (decide (r ≤ p.val ∧ p.val ≤ r + 256)) := by
  have e : (IntOp.subi (IntOp.subi (BitVec.ofNat 32 p.val) 128#32) (BitVec.ofNat 32 r)).toInt = (p.val : Int) - 128 - r := by
    have h := p.isLt
    have ep : (BitVec.ofNat 32 p.val).toInt = (p.val : Int) := by
      rw [BitVec.toInt_eq_toNat_of_lt (by rw [BitVec.toNat_ofNat]; omega), BitVec.toNat_ofNat]; omega
    have er : (BitVec.ofNat 32 r).toInt = (r : Int) := by
      rw [BitVec.toInt_eq_toNat_of_lt (by rw [BitVec.toNat_ofNat]; omega), BitVec.toNat_ofNat]; omega
    have e128 : (128#32 : BitVec 32).toInt = 128 := by decide
    unfold IntOp.subi
    rw [BitVec.toInt_sub, BitVec.toInt_sub, ep, er, e128]
    simp only [Int.bmod_def]
    omega
  rw [WordCmp.cmpi_sge_eq, WordCmp.cmpi_sle_eq, e]
  have e1 : (4294967168#32 : BitVec 32).toInt = -128 := by decide
  have e2 : (128#32 : BitVec 32).toInt = 128 := by decide
  rw [e1, e2]
  by_cases h1 : r ≤ p.val <;> by_cases h2 : p.val ≤ r + 256
  · rw [decide_eq_true (show (-128 : Int) ≤ (p.val : Int) - 128 - r by omega), decide_eq_true (show (p.val : Int) - 128 - r ≤ 128 by omega), decide_eq_true ⟨h1, h2⟩]; rfl
  · rw [decide_eq_true (show (-128 : Int) ≤ (p.val : Int) - 128 - r by omega), decide_eq_false (show ¬ ((p.val : Int) - 128 - r ≤ 128) by omega), decide_eq_false (fun h => h2 h.2)]; rfl
  · rw [decide_eq_false (show ¬ ((-128 : Int) ≤ (p.val : Int) - 128 - r) by omega), decide_eq_true (show (p.val : Int) - 128 - r ≤ 128 by omega), decide_eq_false (fun h => h1 h.1)]; rfl
  · rw [decide_eq_false (show ¬ ((-128 : Int) ≤ (p.val : Int) - 128 - r) by omega), decide_eq_false (show ¬ ((p.val : Int) - 128 - r ≤ 128) by omega), decide_eq_false (fun h => h1 h.1)]; rfl

/-- The window's ends: the first block has none before it, the last none after it. -/
theorem ends_word (i : Fin 16) (p : Fin 384) :
    IntOp.andi (IntOp.cmpi CmpIPredicate.sge (BitVec.ofNat 32 p.val) (Scalar.select (Scalar.cmpi CmpIPredicate.eq (BitVec.ofNat 32 i.val) 0#32) 128#32 0#32))
      (IntOp.cmpi CmpIPredicate.slt (BitVec.ofNat 32 p.val) (Scalar.select (Scalar.cmpi CmpIPredicate.eq (BitVec.ofNat 32 i.val) 15#32) 256#32 384#32))
      = BitVec.ofBool (decide ((i.val = 0 → 128 ≤ p.val) ∧ (i.val = 15 → p.val < 256))) := by
  revert i p
  decide +kernel

/-- A window score after the mask. -/
theorem pay9_at (i : Fin 16) (v22 : FVec Ideal S512x384 .f32) (R : Fin 512) (p : Fin 384) :
    k0_pay9 (F := Ideal) (BitVec.ofNat 32 i.val) v22 (iota Kind.tc S1x384 32 [1] iota_S1x384_d1_w32) k0_pay7 128#32 k0_pay8 0#32 (ix2 R p)
      = if (R.val % 128 ≤ p.val ∧ p.val ≤ R.val % 128 + 256) ∧ ((i.val = 0 → 128 ≤ p.val) ∧ (i.val = 15 → p.val < 256)) then v22 (ix2 R p) else ⊥ := by
  pointwise [k0_pay9, pay7_at, pay8_at]
  rw [row_word, dist_word _ (Nat.mod_lt _ (by decide))]
  have e := ends_word i p
  rw [show ∀ a b c : BitVec 1, IntOp.andi (IntOp.andi a b) c = IntOp.andi a (IntOp.andi b c) from fun a b c => BitVec.and_assoc a b c, e]
  by_cases h1 : R.val % 128 ≤ p.val ∧ p.val ≤ R.val % 128 + 256
  · by_cases h2 : (i.val = 0 → 128 ≤ p.val) ∧ (i.val = 15 → p.val < 256)
    · rw [decide_eq_true h1, decide_eq_true h2, if_pos ⟨h1, h2⟩]; rfl
    · rw [decide_eq_true h1, decide_eq_false h2, if_neg fun h => h2 h.2]
      exact IdealRules.named_const.ideal_named_scalar _ _ _ _ rfl
  · rw [decide_eq_false h1, if_neg fun h => h1 h.1]
    have e0 : ∀ b : BitVec 1, IntOp.andi (BitVec.ofBool false) b = 0#1 := by decide
    rw [e0]
    exact IdealRules.named_const.ideal_named_scalar _ _ _ _ rfl

theorem pay10_at (a2 : BitVec 32) (v11 : FVec Ideal S512x1 .f32) (v22 : FVec Ideal S512x384 .f32) (v24 v26 : IVec S1x384 32) (v28 : BitVec 32) (v30 : IVec S512x1 32) (z : BitVec 32) (R : Fin 512) :
    k0_pay10 (F := Ideal) a2 v11 v22 v24 v26 v28 v30 z (ix2 R 0)
      = max (v11 (ix2 R 0)) (Finset.univ.fold max ⊥ (fun x => k0_pay9 (F := Ideal) a2 v22 v24 v26 v28 v30 z (ix2 R x))) := by
  pointwise [k0_pay10]
  rw [ofBits_bot]

/-- A stacked row's lane group. -/
theorem pay14_at (R : Fin 512) :
    k0_pay14 (iota Kind.tc S512x1 32 [0] iota_S512x1_d0_w32) 128#32 k0_pay11 k0_pay12 k0_pay13 (ix2 R 0) = BitVec.ofNat 32 (R.val / 128) := by
  pointwise [k0_pay14, k0_pay11, k0_pay12, k0_pay13]
  revert R
  decide +kernel

/-- A stacked row's sink: the one of its lane group. -/
theorem sink_at (f : Fin 4 → EReal) (R : Fin 512) (g : Fin 4) (hg : g.val = R.val / 128) :
    Scalar.select (k0_pay16 (iota Kind.tc S512x1 32 [0] iota_S512x1_d0_w32) 128#32 k0_pay11 k0_pay12 k0_pay13 (ix2 R 0)) (f 3)
      (k0_pay15 (F := Ideal) (iota Kind.tc S512x1 32 [0] iota_S512x1_d0_w32) 128#32 k0_pay11 k0_pay12 k0_pay13 (f 0) (f 1) (f 2) (ix2 R 0)) = f g := by
  pointwise [k0_pay15, k0_pay16]
  rw [pay14_at, ← hg]
  clear hg
  fin_cases g <;> rfl

/-- The tile a program writes, one query and lane at a time. -/
theorem pay1_at (v9 : FVec Ideal S512x256 .f32) (v19 : FVec Ideal S384x128 .bf16) (v64 : FVec Ideal S512x384 .f32) (v67 : FVec Ideal S512x1 .f32) (v117 : FVec Ideal S512x1 .f32) (v119 : IVec S512x1 1) (v123 : Ideal .f32) (v133 : FVec Ideal S256x128 .bf16) (q : Fin 128) (l : Fin 512)
    (R : Fin 512) (d : Fin 128) (hR : R.val = l.val / 128 * 128 + q.val) (hd : d.val = l.val % 128) :
    k0_pay1 (F := Ideal) v9 v19 v64 v67 v117 v119 v123 v133 (ix2 q l) = Cert.Proof.headOut (fun x => v9 (ix2 R x)) (fun x => v64 (ix2 R x)) (v67 (ix2 R 0)) (Scalar.select (v119 (ix2 R 0)) v123 (v117 (ix2 R 0))) (fun x => v133 (ix2 x d)) (fun x => v19 (ix2 x d)) := by
  pointwise [k0_pay1]
  by_cases h0 : l.val < 128
  · rw [dif_pos h0]
    have e1 : (⟨q.val, by omega⟩ : Fin 512) = R := Fin.ext (by show q.val = _; omega)
    have e2 : (⟨l.val, by omega⟩ : Fin 128) = d := Fin.ext (by show l.val = _; omega)
    simp only [e1, e2, Cert.Proof.headOut]
  rw [dif_neg h0]
  by_cases h1 : l.val - 128 < 128
  · rw [dif_pos h1]
    have e1 : (⟨128 + q.val, by omega⟩ : Fin 512) = R := Fin.ext (by show 128 + q.val = _; omega)
    have e2 : (⟨l.val - 128, by omega⟩ : Fin 128) = d := Fin.ext (by show l.val - 128 = _; omega)
    simp only [e1, e2, Cert.Proof.headOut]
  rw [dif_neg h1]
  by_cases h2 : l.val - 128 - 128 < 128
  · rw [dif_pos h2]
    have e1 : (⟨256 + q.val, by omega⟩ : Fin 512) = R := Fin.ext (by show 256 + q.val = _; omega)
    have e2 : (⟨l.val - 128 - 128, by omega⟩ : Fin 128) = d := Fin.ext (by show l.val - 128 - 128 = _; omega)
    simp only [e1, e2, Cert.Proof.headOut]
  · rw [dif_neg h2]
    have e1 : (⟨384 + q.val, by omega⟩ : Fin 512) = R := Fin.ext (by show 384 + q.val = _; omega)
    have e2 : (⟨l.val - 128 - 128 - 128, by omega⟩ : Fin 128) = d := Fin.ext (by show l.val - 128 - 128 - 128 = _; omega)
    simp only [e1, e2, Cert.Proof.headOut]

end Cert.SwaIdeal.Value

end
-- ==== Proof.SwaBlk.lean ====
module

public import proofs.«01_k».proof.Defs
public import proofs.«01_k».proof.Proof.SwaRef
public import proofs.«01_k».proof.Proof.SwaPay
public import proofs.«01_k».proof.Proof.Gen.SwaIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwaIdeal.Value

open Cert.SwaIdeal Cert.SwaIdeal.Gen

variable (m : (ℓ : Loc nD τ sig) → Buf (Elt Ideal) ℓ)

/-- Each window's block at a grid point (batch, key head, block of queries). -/
theorem blockIdx : ∀ t : Fin cfg0.N, win0_0.index t = ![0] ∧ win0_1.index t = ![(grid0.coords t 0).val * 16 + (grid0.coords t 2).val, (grid0.coords t 1).val]
    ∧ win0_2.index t = ![(grid0.coords t 0).val * 16 + ((grid0.coords t 2).val - 1), 32 + (grid0.coords t 1).val]
    ∧ win0_3.index t = ![(grid0.coords t 0).val * 16 + (grid0.coords t 2).val, 32 + (grid0.coords t 1).val]
    ∧ win0_4.index t = ![(grid0.coords t 0).val * 16 + min ((grid0.coords t 2).val + 1) 15, 32 + (grid0.coords t 1).val]
    ∧ win0_5.index t = ![(grid0.coords t 0).val * 16 + ((grid0.coords t 2).val - 1), 40 + (grid0.coords t 1).val]
    ∧ win0_6.index t = ![(grid0.coords t 0).val * 16 + (grid0.coords t 2).val, 40 + (grid0.coords t 1).val]
    ∧ win0_7.index t = ![(grid0.coords t 0).val * 16 + min ((grid0.coords t 2).val + 1) 15, 40 + (grid0.coords t 1).val]
    ∧ win0_8.index t = ![64 + (grid0.coords t 0).val, 32 + (grid0.coords t 1).val]
    ∧ win0_9.index t = ![64 + (grid0.coords t 0).val, 40 + (grid0.coords t 1).val]
    ∧ win0_10.index t = ![(grid0.coords t 0).val * 16 + (grid0.coords t 2).val, (grid0.coords t 1).val] :=
  (by decide +kernel : ∀ t : Fin grid0.N, _)

theorem coord_lt (t : Fin cfg0.N) : (grid0.coords t 0).val < 8 ∧ (grid0.coords t 1).val < 8 ∧ (grid0.coords t 2).val < 16 :=
  ⟨(grid0.coords t 0).isLt, (grid0.coords t 1).isLt, (grid0.coords t 2).isLt⟩

/-- The queries' block. -/
theorem blk_q (c : Dev nD) (t : Fin cfg0.N) (q : Fin 128) (l : Fin 512) (r : Fin 18432) (l' : Fin 6144)
    (hr : r.val = ((grid0.coords t 0).val * 16 + (grid0.coords t 2).val) * 128 + q.val) (hl : l'.val = (grid0.coords t 1).val * 512 + l.val) :
    (iblk m c 1 t : FVec Ideal S128x512 .bf16) (ix2 q l) = (m ((c : Thread nD τ).loc main_arg0) : FVec Ideal S18432x6144 .bf16) (ix2 r l') := by
  blk_ext [iblk, V, blockIdx t]

/-- The key before, at and after the block of queries, and the values. -/
theorem blk_k (c : Dev nD) (t : Fin cfg0.N) (q d : Fin 128) (r : Fin 18432) (l' : Fin 6144)
    (hl : l'.val = (32 + (grid0.coords t 1).val) * 128 + d.val) :
    (r.val = ((grid0.coords t 0).val * 16 + ((grid0.coords t 2).val - 1)) * 128 + q.val → (iblk m c 2 t : FVec Ideal S128x128 .bf16) (ix2 q d) = (m ((c : Thread nD τ).loc main_arg0) : FVec Ideal S18432x6144 .bf16) (ix2 r l'))
    ∧ (r.val = ((grid0.coords t 0).val * 16 + (grid0.coords t 2).val) * 128 + q.val → (iblk m c 3 t : FVec Ideal S128x128 .bf16) (ix2 q d) = (m ((c : Thread nD τ).loc main_arg0) : FVec Ideal S18432x6144 .bf16) (ix2 r l'))
    ∧ (r.val = ((grid0.coords t 0).val * 16 + min ((grid0.coords t 2).val + 1) 15) * 128 + q.val → (iblk m c 4 t : FVec Ideal S128x128 .bf16) (ix2 q d) = (m ((c : Thread nD τ).loc main_arg0) : FVec Ideal S18432x6144 .bf16) (ix2 r l')) := by
  refine ⟨fun hr => ?_, fun hr => ?_, fun hr => ?_⟩ <;> blk_ext [iblk, V, blockIdx t]

theorem blk_v (c : Dev nD) (t : Fin cfg0.N) (q d : Fin 128) (r : Fin 18432) (l' : Fin 6144)
    (hl : l'.val = (40 + (grid0.coords t 1).val) * 128 + d.val) :
    (r.val = ((grid0.coords t 0).val * 16 + ((grid0.coords t 2).val - 1)) * 128 + q.val → (iblk m c 5 t : FVec Ideal S128x128 .bf16) (ix2 q d) = (m ((c : Thread nD τ).loc main_arg0) : FVec Ideal S18432x6144 .bf16) (ix2 r l'))
    ∧ (r.val = ((grid0.coords t 0).val * 16 + (grid0.coords t 2).val) * 128 + q.val → (iblk m c 6 t : FVec Ideal S128x128 .bf16) (ix2 q d) = (m ((c : Thread nD τ).loc main_arg0) : FVec Ideal S18432x6144 .bf16) (ix2 r l'))
    ∧ (r.val = ((grid0.coords t 0).val * 16 + min ((grid0.coords t 2).val + 1) 15) * 128 + q.val → (iblk m c 7 t : FVec Ideal S128x128 .bf16) (ix2 q d) = (m ((c : Thread nD τ).loc main_arg0) : FVec Ideal S18432x6144 .bf16) (ix2 r l')) := by
  refine ⟨fun hr => ?_, fun hr => ?_, fun hr => ?_⟩ <;> blk_ext [iblk, V, blockIdx t]

/-- The context's keys and values. -/
theorem blk_kc (c : Dev nD) (t : Fin cfg0.N) (q : Fin 256) (d : Fin 128) (r : Fin 18432) (l' : Fin 6144)
    (hr : r.val = (64 + (grid0.coords t 0).val) * 256 + q.val) (hl : l'.val = (32 + (grid0.coords t 1).val) * 128 + d.val) :
    (iblk m c 8 t : FVec Ideal S256x128 .bf16) (ix2 q d) = (m ((c : Thread nD τ).loc main_arg0) : FVec Ideal S18432x6144 .bf16) (ix2 r l') := by
  blk_ext [iblk, V, blockIdx t]

theorem blk_vc (c : Dev nD) (t : Fin cfg0.N) (q : Fin 256) (d : Fin 128) (r : Fin 18432) (l' : Fin 6144)
    (hr : r.val = (64 + (grid0.coords t 0).val) * 256 + q.val) (hl : l'.val = (40 + (grid0.coords t 1).val) * 128 + d.val) :
    (iblk m c 9 t : FVec Ideal S256x128 .bf16) (ix2 q d) = (m ((c : Thread nD τ).loc main_arg0) : FVec Ideal S18432x6144 .bf16) (ix2 r l') := by
  blk_ext [iblk, V, blockIdx t]

/-- Where the sink of lane group `g` lies. -/
theorem off_sink : ∀ (t : Fin cfg0.N) (g : Fin 4), k0_off1 (grid0.coords t) (BitVec.ofNat 32 g.val) = ![(grid0.coords t 1).val * 4 + g.val] :=
  (by decide +kernel : ∀ (t : Fin grid0.N) (g : Fin 4), _)

theorem blk_sink (c : Dev nD) (t : Fin cfg0.N) (g : Fin 4) (h h') (s : Fin 32) (hs : s.val = (grid0.coords t 1).val * 4 + g.val) :
    View.ld (iblk m c 0 t) (Rect.unit (k0_off1 (grid0.coords t) (BitVec.ofNat 32 g.val)) ![1] h) (Shape.Idx.first h')
      = (m ((c : Thread nD τ).loc main_arg1) : FVec Ideal S32 .f32) (ix1 s) := by
  have e : (iblk m c 0 t : FVec Ideal S32 .f32) (ix1 s) = (m ((c : Thread nD τ).loc main_arg1) : FVec Ideal S32 .f32) (ix1 s) := by
    blk_ext [iblk, V, blockIdx t]
  refine (View.ld_unit_apply_of _ _ _ h _ (ix1 s : S32.Idx) fun a => ?_).trans e
  have ho := congrFun (off_sink t g) (0 : Fin 1)
  obtain ⟨n, hn⟩ := a
  obtain rfl : n = 0 := Nat.lt_one_iff.mp hn
  exact hs.trans ho.symm

end Cert.SwaIdeal.Value

end
-- ==== Proof.Swa.lean ====
module

public import proofs.«01_k».proof.Defs
public import proofs.«01_k».proof.Proof.SwaBlk
public import proofs.«01_k».proof.Proof.SwaRef
public import proofs.«01_k».proof.Proof.SwaPay
public import proofs.«01_k».proof.Proof.Gen.SwaIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwaIdeal.Value

open Cert.SwaIdeal Cert.SwaIdeal.Gen

variable (m : (ℓ : Loc nD τ sig) → Buf (Elt Ideal) ℓ)

/-- What a grid point stores is its tile of the attention, when the queries, keys, values and sinks are real numbers. -/
theorem tile (c : Dev nD) (t : Fin cfg0.N) (X : FVec Ideal S18432x6144 .bf16) (sink : FVec Ideal S32 .f32)
    (hXm : m ((c : Thread nD τ).loc main_arg0) = X) (hSm : m ((c : Thread nD τ).loc main_arg1) = sink)
    (hX : ∀ r l, Cert.Proof.IsReal (X (ix2 r l))) (hS : ∀ s, Cert.Proof.IsReal (sink (ix1 s)))
    (b k : Fin 8) (i : Fin 16) (hb : (grid0.coords t 0).val = b.val) (hk : (grid0.coords t 1).val = k.val) (hi : (grid0.coords t 2).val = i.val)
    (s0 s1 s2 s3 : Ideal .f32) (h0 : s0 = sink (ix1 ⟨k.val * 4 + 0, by omega⟩)) (h1 : s1 = sink (ix1 ⟨k.val * 4 + 1, by omega⟩))
    (h2 : s2 = sink (ix1 ⟨k.val * 4 + 2, by omega⟩)) (h3 : s3 = sink (ix1 ⟨k.val * 4 + 3, by omega⟩)) (y : Fin 128) (z : Fin 512) :
    k0_pay1 (F := Ideal) (k0_pay3 (F := Ideal) (iblk m c 1 t) (iblk m c 8 t)) (k0_pay5 (F := Ideal) (iblk m c 5 t) (iblk m c 6 t) (iblk m c 7 t))
      (k0_pay9 (F := Ideal) (BitVec.ofNat 32 (grid0.coords t 2).val)
        (k0_pay6 (F := Ideal) (iblk m c 1 t) (iblk m c 2 t) (iblk m c 3 t) (iblk m c 4 t))
        (iota Kind.tc S1x384 32 [1] iota_S1x384_d1_w32) k0_pay7 128#32 k0_pay8 0#32)
      (k0_pay10 (F := Ideal) (BitVec.ofNat 32 (grid0.coords t 2).val) (k0_pay4 (F := Ideal) (iblk m c 1 t) (iblk m c 8 t))
        (k0_pay6 (F := Ideal) (iblk m c 1 t) (iblk m c 2 t) (iblk m c 3 t) (iblk m c 4 t))
        (iota Kind.tc S1x384 32 [1] iota_S1x384_d1_w32) k0_pay7 128#32 k0_pay8 0#32)
      (k0_pay15 (F := Ideal) (iota Kind.tc S512x1 32 [0] iota_S512x1_d0_w32) 128#32 k0_pay11 k0_pay12 k0_pay13 s0 s1 s2)
      (k0_pay16 (iota Kind.tc S512x1 32 [0] iota_S512x1_d0_w32) 128#32 k0_pay11 k0_pay12 k0_pay13) s3 (iblk m c 9 t) (ix2 y z)
      = Cert.SwaRefIdeal.Value.attn X sink (ix2 ⟨(b.val * 16 + i.val) * 128 + y.val, by omega⟩ ⟨k.val * 512 + z.val, by omega⟩) := by
  obtain ⟨g, hg⟩ : ∃ g : Fin 4, g.val = z.val / 128 := ⟨⟨z.val / 128, by omega⟩, rfl⟩
  obtain ⟨d, hd⟩ : ∃ d : Fin 128, d.val = z.val % 128 := ⟨⟨z.val % 128, by omega⟩, rfl⟩
  obtain ⟨R, hR⟩ : ∃ R : Fin 512, R.val = z.val / 128 * 128 + y.val := ⟨⟨z.val / 128 * 128 + y.val, by omega⟩, rfl⟩
  obtain ⟨q, hq⟩ : ∃ q : Fin 2048, q.val = i.val * 128 + y.val := ⟨⟨i.val * 128 + y.val, by omega⟩, rfl⟩
  rw [pay1_at _ _ _ _ _ _ _ _ y z R d hR hd, hi]
  have hsink : Scalar.select (k0_pay16 (iota Kind.tc S512x1 32 [0] iota_S512x1_d0_w32) 128#32 k0_pay11 k0_pay12 k0_pay13 (ix2 R 0)) s3
      (k0_pay15 (F := Ideal) (iota Kind.tc S512x1 32 [0] iota_S512x1_d0_w32) 128#32 k0_pay11 k0_pay12 k0_pay13 s0 s1 s2 (ix2 R 0))
      = sink (ix1 ⟨k.val * 4 + g.val, by omega⟩) := by
    subst h0 h1 h2 h3
    exact sink_at (fun g => sink (ix1 ⟨k.val * 4 + g.val, by omega⟩)) R g (by omega)
  rw [hsink]
  rw [pay10_at, pay4_at]
  -- the reads of the blocks
  have hqk : ∀ x : Fin 128, k0_pay2 (F := Ideal) (iblk m c 1 t) (ix2 R x)
      = X (ix2 ⟨b.val * 2048 + q.val, by omega⟩ ⟨k.val * 512 + g.val * 128 + x.val, by omega⟩) := by
    intro x
    rw [pay2_at _ R x y ⟨g.val * 128 + x.val, by omega⟩ (by omega) (by show g.val * 128 + x.val = _; omega)]
    rw [blk_q m c t y ⟨g.val * 128 + x.val, by omega⟩ ⟨b.val * 2048 + q.val, by omega⟩ ⟨k.val * 512 + g.val * 128 + x.val, by omega⟩
      (by show b.val * 2048 + q.val = _; rw [hb, hi]; omega) (by show k.val * 512 + g.val * 128 + x.val = _; rw [hk]; show _ = k.val * 512 + (g.val * 128 + x.val); omega), hXm]
  have hcs : ∀ x : Fin 256, k0_pay3 (F := Ideal) (iblk m c 1 t) (iblk m c 8 t) (ix2 R x) = Cert.SwaRefIdeal.Value.ctxScore X b k g q x := by
    intro x
    rw [pay3_at]
    unfold Cert.SwaRefIdeal.Value.ctxScore Cert.SwaRefIdeal.Value.dotScore
    refine congrArg (· * _) (Finset.sum_congr rfl fun e _ => ?_)
    rw [hqk e, blk_kc m c t x e ⟨16384 + (b.val * 256 + x.val), by omega⟩ ⟨4096 + (k.val * 128 + e.val), by omega⟩
      (by show 16384 + (b.val * 256 + x.val) = _; rw [hb]; omega) (by show 4096 + (k.val * 128 + e.val) = _; rw [hk]; omega), hXm, mul_comm]
  have hvc : ∀ x : Fin 256, (iblk m c 9 t : FVec Ideal S256x128 .bf16) (ix2 x d)
      = X (ix2 ⟨16384 + (b.val * 256 + x.val), by omega⟩ ⟨5120 + (k.val * 128 + d.val), by omega⟩) := by
    intro x
    rw [blk_vc m c t x d ⟨16384 + (b.val * 256 + x.val), by omega⟩ ⟨5120 + (k.val * 128 + d.val), by omega⟩
      (by show 16384 + (b.val * 256 + x.val) = _; rw [hb]; omega) (by show 5120 + (k.val * 128 + d.val) = _; rw [hk]; omega), hXm]
  -- the three blocks of keys, and of values, as rows of the window
  have hk3 : ∀ (p : Fin 384) (e : Fin 128) (j : Fin 2048), j.val + 128 = i.val * 128 + p.val →
      cat3 (iblk m c 2 t) (iblk m c 3 t) (iblk m c 4 t) p e = X (ix2 ⟨b.val * 2048 + j.val, by omega⟩ ⟨4096 + (k.val * 128 + e.val), by omega⟩) := by
    intro p e j hj
    unfold cat3
    rw [← hXm]
    have hl : (⟨4096 + (k.val * 128 + e.val), by omega⟩ : Fin 6144).val = (32 + (grid0.coords t 1).val) * 128 + e.val := by
      show 4096 + (k.val * 128 + e.val) = _; rw [hk]; omega
    by_cases c1 : p.val < 128
    · rw [dif_pos c1]
      exact (blk_k m c t ⟨p.val, c1⟩ e ⟨b.val * 2048 + j.val, by omega⟩ _ hl).1 (by show b.val * 2048 + j.val = _ + p.val; rw [hb, hi]; omega)
    rw [dif_neg c1]
    by_cases c2 : p.val - 128 < 128
    · rw [dif_pos c2]
      exact (blk_k m c t ⟨p.val - 128, c2⟩ e ⟨b.val * 2048 + j.val, by omega⟩ _ hl).2.1 (by show b.val * 2048 + j.val = _ + (p.val - 128); rw [hb, hi]; omega)
    · rw [dif_neg c2]
      exact (blk_k m c t ⟨p.val - 128 - 128, by omega⟩ e ⟨b.val * 2048 + j.val, by omega⟩ _ hl).2.2 (by show b.val * 2048 + j.val = _ + (p.val - 128 - 128); rw [hb, hi]; omega)
  have hv3 : ∀ (p : Fin 384) (j : Fin 2048), j.val + 128 = i.val * 128 + p.val →
      cat3 (iblk m c 5 t) (iblk m c 6 t) (iblk m c 7 t) p d = X (ix2 ⟨b.val * 2048 + j.val, by omega⟩ ⟨5120 + (k.val * 128 + d.val), by omega⟩) := by
    intro p j hj
    unfold cat3
    rw [← hXm]
    have hl : (⟨5120 + (k.val * 128 + d.val), by omega⟩ : Fin 6144).val = (40 + (grid0.coords t 1).val) * 128 + d.val := by
      show 5120 + (k.val * 128 + d.val) = _; rw [hk]; omega
    by_cases c1 : p.val < 128
    · rw [dif_pos c1]
      exact (blk_v m c t ⟨p.val, c1⟩ d ⟨b.val * 2048 + j.val, by omega⟩ _ hl).1 (by show b.val * 2048 + j.val = _ + p.val; rw [hb, hi]; omega)
    rw [dif_neg c1]
    by_cases c2 : p.val - 128 < 128
    · rw [dif_pos c2]
      exact (blk_v m c t ⟨p.val - 128, c2⟩ d ⟨b.val * 2048 + j.val, by omega⟩ _ hl).2.1 (by show b.val * 2048 + j.val = _ + (p.val - 128); rw [hb, hi]; omega)
    · rw [dif_neg c2]
      exact (blk_v m c t ⟨p.val - 128 - 128, by omega⟩ d ⟨b.val * 2048 + j.val, by omega⟩ _ hl).2.2 (by show b.val * 2048 + j.val = _ + (p.val - 128 - 128); rw [hb, hi]; omega)
  have hvr : ∀ p : Fin 384, Cert.Proof.IsReal (cat3 (iblk m c 5 t) (iblk m c 6 t) (iblk m c 7 t) p d) := by
    intro p
    unfold cat3
    have hl : (⟨5120 + (k.val * 128 + d.val), by omega⟩ : Fin 6144).val = (40 + (grid0.coords t 1).val) * 128 + d.val := by
      show 5120 + (k.val * 128 + d.val) = _; rw [hk]; omega
    by_cases c1 : p.val < 128
    · rw [dif_pos c1, (blk_v m c t ⟨p.val, c1⟩ d ⟨(b.val * 16 + (i.val - 1)) * 128 + p.val, by omega⟩ _ hl).1 (by rw [hb, hi]), hXm]
      exact hX _ _
    rw [dif_neg c1]
    by_cases c2 : p.val - 128 < 128
    · rw [dif_pos c2, (blk_v m c t ⟨p.val - 128, c2⟩ d ⟨(b.val * 16 + i.val) * 128 + (p.val - 128), by omega⟩ _ hl).2.1 (by rw [hb, hi]), hXm]
      exact hX _ _
    · rw [dif_neg c2, (blk_v m c t ⟨p.val - 128 - 128, by omega⟩ d ⟨(b.val * 16 + min (i.val + 1) 15) * 128 + (p.val - 128 - 128), by omega⟩ _ hl).2.2 (by rw [hb, hi]), hXm]
      exact hX _ _
  have hdot : ∀ r, Cert.Proof.IsReal (Cert.SwaRefIdeal.Value.dotScore X b k g q r) := by
    intro r
    refine Cert.Proof.isReal_mul (Cert.Proof.isReal_sum _ fun e => Cert.Proof.isReal_mul (hX _ _) (hX _ _)) ?_
    exact ⟨_, rfl⟩
  have hloc : ∀ (p : Fin 384) (j : Fin 2048), j.val + 128 = i.val * 128 + p.val →
      k0_pay9 (F := Ideal) (BitVec.ofNat 32 i.val) (k0_pay6 (F := Ideal) (iblk m c 1 t) (iblk m c 2 t) (iblk m c 3 t) (iblk m c 4 t))
        (iota Kind.tc S1x384 32 [1] iota_S1x384_d1_w32) k0_pay7 128#32 k0_pay8 0#32 (ix2 R p) = Cert.SwaRefIdeal.Value.locScore X b k g q j := by
    intro p j hj
    rw [pay9_at, pay6_at]
    unfold Cert.SwaRefIdeal.Value.locScore Cert.SwaRefIdeal.Value.dotScore
    have hiff : ((R.val % 128 ≤ p.val ∧ p.val ≤ R.val % 128 + 256) ∧ ((i.val = 0 → 128 ≤ p.val) ∧ (i.val = 15 → p.val < 256)))
        ↔ (q.val ≤ j.val + 128 ∧ j.val ≤ q.val + 128) := by omega
    by_cases hc : q.val ≤ j.val + 128 ∧ j.val ≤ q.val + 128
    · rw [if_pos hc, if_pos (hiff.2 hc)]
      refine congrArg (· * _) (Finset.sum_congr rfl fun e _ => ?_)
      rw [hqk e, hk3 p e j hj, mul_comm]
    · rw [if_neg hc, if_neg fun h => hc (hiff.1 h)]
  have hout : ∀ p : Fin 384, (i.val * 128 + p.val < 128 ∨ 2176 ≤ i.val * 128 + p.val) →
      k0_pay9 (F := Ideal) (BitVec.ofNat 32 i.val) (k0_pay6 (F := Ideal) (iblk m c 1 t) (iblk m c 2 t) (iblk m c 3 t) (iblk m c 4 t))
        (iota Kind.tc S1x384 32 [1] iota_S1x384_d1_w32) k0_pay7 128#32 k0_pay8 0#32 (ix2 R p) = ⊥ := by
    intro p hp
    rw [pay9_at, if_neg (by omega)]
  have hctx : (fun x => k0_pay3 (F := Ideal) (iblk m c 1 t) (iblk m c 8 t) (ix2 R x)) = Cert.SwaRefIdeal.Value.ctxScore X b k g q := funext hcs
  obtain ⟨M, hM, e⟩ := Cert.SwaRefIdeal.Value.attn_at X sink ⟨(b.val * 16 + i.val) * 128 + y.val, by omega⟩ ⟨k.val * 512 + z.val, by omega⟩ b k g q d
    (by show b.val = ((b.val * 16 + i.val) * 128 + y.val) / 2048; omega) (by show q.val = ((b.val * 16 + i.val) * 128 + y.val) % 2048; omega)
    (by show k.val = (k.val * 512 + z.val) / 512; omega) (by show g.val = (k.val * 512 + z.val) / 128 % 4; omega) (by show d.val = (k.val * 512 + z.val) % 128; omega)
  rw [e, hctx]
  refine ((Cert.Proof.window_softmax i.val (Cert.SwaRefIdeal.Value.locScore X b k g q)
    (fun p => k0_pay9 (F := Ideal) (BitVec.ofNat 32 i.val) (k0_pay6 (F := Ideal) (iblk m c 1 t) (iblk m c 2 t) (iblk m c 3 t) (iblk m c 4 t))
        (iota Kind.tc S1x384 32 [1] iota_S1x384_d1_w32) k0_pay7 128#32 k0_pay8 0#32 (ix2 R p))
    (Cert.SwaRefIdeal.Value.ctxScore X b k g q) (sink (ix1 ⟨k.val * 4 + g.val, by omega⟩))
    (fun j => X (ix2 ⟨b.val * 2048 + j.val, by omega⟩ ⟨5120 + (k.val * 128 + d.val), by omega⟩))
    (fun p => cat3 (iblk m c 5 t) (iblk m c 6 t) (iblk m c 7 t) p d)
    (fun x => X (ix2 ⟨16384 + (b.val * 256 + x.val), by omega⟩ ⟨5120 + (k.val * 128 + d.val), by omega⟩))
    M ?_ ?_ (hS _) ?_ ?_ ?_ hout ?_ hM).trans ?_).symm
  · intro p
    by_cases hp : i.val * 128 + p.val < 128 ∨ 2176 ≤ i.val * 128 + p.val
    · exact Or.inr (hout p hp)
    · rw [hloc p ⟨i.val * 128 + p.val - 128, by omega⟩ (by show i.val * 128 + p.val - 128 + 128 = _; omega)]
      unfold Cert.SwaRefIdeal.Value.locScore
      split
      · exact Or.inl (hdot _)
      · exact Or.inr rfl
  · exact fun x => hdot _
  · exact hvr
  · exact fun x => hX _ _
  · exact fun p j hj => ⟨hloc p j hj, hv3 p j hj⟩
  · intro j hj
    unfold Cert.SwaRefIdeal.Value.locScore
    rw [if_neg (by omega)]
  · simp only [hvc, pay5_at]

/-- The result array after the run, when the arguments are real numbers. -/
theorem result (c : Dev nD) (X : FVec Ideal S18432x6144 .bf16) (sink : FVec Ideal S32 .f32)
    (hXm : m ((c : Thread nD τ).loc main_arg0) = X) (hSm : m ((c : Thread nD τ).loc main_arg1) = sink)
    (hX : ∀ r l, Cert.Proof.IsReal (X (ix2 r l))) (hS : ∀ s, Cert.Proof.IsReal (sink (ix1 s))) :
    (dats m 0 c).arrAt 10 (cfgs 0).N = Cert.SwaRefIdeal.Value.attn X sink := by
  refine (dats m 0 c).arrAt_eq_of_covers 10 _ (by decide +kernel) fun t _ y => ?_
  blk_simp
  rw [after0_10]
  unfold outsAt0
  frame_out
  have hc := coord_lt t
  have hy0 : (y 0).val < 128 := (y 0).isLt
  have hy1 : (y 1).val < 512 := (y 1).isLt
  have ey : y = (ix2 (y 0) (y 1) : S128x512.Idx) := eq_ix2 y
  have e : ((cfg0.win 10).blk t).view.emb y = (ix2 ⟨((grid0.coords t 0).val * 16 + (grid0.coords t 2).val) * 128 + (y 0).val, by omega⟩
      ⟨(grid0.coords t 1).val * 512 + (y 1).val, by omega⟩ : S16384x4096.Idx) := by
    blk_ext [blockIdx t]
  rw [e]
  exact (congrArg (k0_pay1 (F := Ideal) _ _ _ _ _ _ _ _) ey).trans <| tile m c t X sink hXm hSm hX hS ⟨(grid0.coords t 0).val, hc.1⟩ ⟨(grid0.coords t 1).val, hc.2.1⟩ ⟨(grid0.coords t 2).val, hc.2.2⟩ rfl rfl rfl
    _ _ _ _ ((blk_sink m c t 0 _ _ _ rfl).trans (congrFun hSm _)) ((blk_sink m c t 1 _ _ _ rfl).trans (congrFun hSm _))
    ((blk_sink m c t 2 _ _ _ rfl).trans (congrFun hSm _)) ((blk_sink m c t 3 _ _ _ rfl).trans (congrFun hSm _)) (y 0) (y 1)

end Cert.SwaIdeal.Value

end
-- ==== Proof.SwaClaim.lean ====
/- The attention's claim: under finite inputs the tiled kernel computes what the formula computes. -/
module

public import proofs.«01_k».proof.Defs
public import proofs.«01_k».proof.Proof.Swa
public import proofs.«01_k».proof.Proof.Gen.SwaIdeal.Value
public import proofs.«01_k».proof.Proof.Gen.SwaRefIdeal.Run
public import proofs.«01_k».proof.Proof.Gen.Pre_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof

/-- A conjunction of two words is one only when both are. -/
theorem and_one (a b : BitVec 1) : IntOp.andi a b = 1#1 ↔ a = 1#1 ∧ b = 1#1 := by
  revert a b; decide

/-- A conjunction of words over a set is one only when every word is. -/
theorem fold_and {ι : Type} [DecidableEq ι] (S : Finset ι) (f : ι → BitVec 1) (b : BitVec 1)
    [Std.Commutative (IntOp.andi (w := 1))] [Std.Associative (IntOp.andi (w := 1))]
    (h : S.fold IntOp.andi b f = 1#1) : ∀ i ∈ S, f i = 1#1 := by
  induction S using Finset.cons_induction with
  | empty => simp
  | cons a S ha ih =>
    rw [Finset.fold_cons, and_one] at h
    intro i hi
    rcases Finset.mem_cons.1 hi with rfl | hi
    · exact h.1
    · exact ih h.2 i hi

/-- A conjunction over a whole array is one only when every element is. -/
theorem reduce_and {s t u : Shape} {axes : List (Fin s.rank)} (x : s.Idx → BitVec 1) (init : u.Idx → BitVec 1) (h : s.ReducesTo axes t)
    (hu : 0 < u.numel) (j : t.Idx) (ht : t.rank = 0) (e : Host.reduce IntOp.andi x init h hu j = 1#1) (i : s.Idx) : x i = 1#1 := by
  classical
  haveI : Std.Commutative (IntOp.andi (w := 1)) := ⟨by decide⟩
  haveI : Std.Associative (IntOp.andi (w := 1)) := ⟨by decide⟩
  rw [Host.reduce_eq_fold] at e
  refine fold_and _ _ _ e i (Finset.mem_filter.2 ⟨Finset.mem_univ _, ?_⟩)
  funext b
  exact absurd b.isLt (by omega)

/-- A number whose magnitude is below infinity is a real. -/
theorem isReal_of_abs (x : EReal) (h : FloatOps.cmpf (F := Ideal) (φ := .f32) .olt (FloatOps.absf (F := Ideal) (φ := .f32) x) (Ideal.ofBits .f32 0x7F800000#32) = 1#1) :
    IsReal x := by
  have e : Ideal.ofBits .f32 0x7F800000#32 = (⊤ : EReal) := by simp [Ideal.ofBits, Ideal.ieee]
  rw [e] at h
  induction x using EReal.rec with
  | bot => simp [FloatOps.cmpf, FloatOps.absf, Ideal.cmp] at h
  | coe r => exact ⟨r, rfl⟩
  | top => simp [FloatOps.cmpf, FloatOps.absf, Ideal.cmp] at h

/-- What the precondition says: every entry of the rows and every sink is a real. -/
theorem finite_of_pre (X : FVec Ideal Cert.SwaIdeal.S18432x6144 .bf16) (sink : FVec Ideal Cert.SwaIdeal.S32 .f32)
    (h : Cert.Pre_finite.fn (F := Ideal) X sink = fun _ => 1#1) :
    (∀ r l, IsReal (X (ix2 r l))) ∧ ∀ s, IsReal (sink (ix1 s)) := by
  have e := congrFun h (Shape.Idx.first Cert.Pre_finite.Facts.h_S_)
  unfold Cert.Pre_finite.fn at e
  obtain ⟨e1, e2⟩ := (and_one _ _).1 e
  exact ⟨fun r l => isReal_of_abs _ (reduce_and _ _ _ _ _ rfl e1 (ix2 r l)), fun s => isReal_of_abs _ (reduce_and _ _ _ _ _ rfl e2 (ix1 s))⟩

/-- The formula's run ends with the window softmax of the rows. -/
theorem ref_result (m : (ℓ : Loc Cert.SwaRefIdeal.nD Cert.SwaRefIdeal.τ Cert.SwaRefIdeal.sig) → Buf (Elt Ideal) ℓ) (c : Dev Cert.SwaRefIdeal.nD) :
    Cert.SwaRefIdeal.Value.res_main_v54 m c = Cert.SwaRefIdeal.Value.attn (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) := by
  unfold Cert.SwaRefIdeal.Value.res_main_v54
  rfl

/-- Under finite inputs the kernel's attention rows equal the formula's, as extended reals. -/
theorem algebraic_swa : Cert.algebraic_SwaIdeal_SwaRefIdeal_pre_finite := by
  pair_intro
  · run_from Cert.SwaIdeal.Gen.run_main m g
  · refine (θ_run _ _ _).mono (fun r h c => ?_) (Cert.SwaRefIdeal.Value.run m' g')
    refine ⟨(h c).1.trans ?_, (h c).2⟩
    obtain ⟨hX, hS⟩ := finite_of_pre _ _ (hpre c)
    refine Eq.trans ?_ (Cert.SwaIdeal.Value.result m c _ _ rfl rfl hX hS).symm
    refine (ref_result m' c).trans ?_
    rw [(hagree c).1, (hagree c).2]

end Cert.Proof
end
-- ==== Proof.OutProj.lean ====
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- The residual rows plus a projection under a gate: each batch's gate for its latent rows, row 8's for the context. -/
abbrev residual (A : FVec Ideal S18432x4096 .bf16) (W : FVec Ideal S4096x4096 .f32) (H : FVec Ideal S18432x4096 .f32) (M : FVec Ideal S16x6x1x4096 .f32) : FVec Ideal S18432x4096 .f32 :=
  concatenate Cert.OutProjRefIdeal.S18432x4096 0 [⟨Cert.OutProjRefIdeal.S16384x4096, (shapeCast _ (addf (shapeCast _ (extractStridedSlice Cert.OutProjRefIdeal.S16384x4096 ![0, 0] H Cert.OutProjRefIdeal.Gen.slices_S18432x4096_S16384x4096_0_0) Cert.OutProjRefIdeal.Gen.shapeCasts_S16384x4096_S8x2048x4096) (mulf (broadcastInDim Cert.OutProjRefIdeal.S8x2048x4096 ![0, 1, 2] Cert.OutProjRefIdeal.Gen.bcast_S8x1x4096_S8x2048x4096_0_1_2 (extractStridedSlice Cert.OutProjRefIdeal.S8x1x4096 ![0, 0, 0] (shapeCast _ (extractStridedSlice Cert.OutProjRefIdeal.S16x1x1x4096 ![0, 2, 0, 0] M Cert.OutProjRefIdeal.Gen.slices_S16x6x1x4096_S16x1x1x4096_0_2_0_0) Cert.OutProjRefIdeal.Gen.shapeCasts_S16x1x1x4096_S16x1x4096) Cert.OutProjRefIdeal.Gen.slices_S16x1x4096_S8x1x4096_0_0_0)) (shapeCast _ (extractStridedSlice Cert.OutProjRefIdeal.S16384x4096 ![0, 0] (Host.dotGeneral Cert.OutProjRefIdeal.dot_S18432x4096_S4096x4096_S18432x4096_1_0_0_1_n_n none (extf .f32 A Cert.OutProjRefIdeal.Gen.bitsLt_bf16_f32) W) Cert.OutProjRefIdeal.Gen.slices_S18432x4096_S16384x4096_0_0) Cert.OutProjRefIdeal.Gen.shapeCasts_S16384x4096_S8x2048x4096))) Cert.OutProjRefIdeal.Gen.shapeCasts_S8x2048x4096_S16384x4096)⟩, ⟨Cert.OutProjRefIdeal.S2048x4096, (addf (extractStridedSlice Cert.OutProjRefIdeal.S2048x4096 ![16384, 0] H Cert.OutProjRefIdeal.Gen.slices_S18432x4096_S2048x4096_16384_0) (mulf (broadcastInDim Cert.OutProjRefIdeal.S2048x4096 ![0, 1] Cert.OutProjRefIdeal.Gen.bcast_S1x4096_S2048x4096_0_1 (shapeCast _ (extractStridedSlice Cert.OutProjRefIdeal.S1x1x4096 ![8, 0, 0] (shapeCast _ (extractStridedSlice Cert.OutProjRefIdeal.S16x1x1x4096 ![0, 2, 0, 0] M Cert.OutProjRefIdeal.Gen.slices_S16x6x1x4096_S16x1x1x4096_0_2_0_0) Cert.OutProjRefIdeal.Gen.shapeCasts_S16x1x1x4096_S16x1x4096) Cert.OutProjRefIdeal.Gen.slices_S16x1x4096_S1x1x4096_8_0_0) Cert.OutProjRefIdeal.Gen.shapeCasts_S1x1x4096_S1x4096)) (extractStridedSlice Cert.OutProjRefIdeal.S2048x4096 ![16384, 0] (Host.dotGeneral Cert.OutProjRefIdeal.dot_S18432x4096_S4096x4096_S18432x4096_1_0_0_1_n_n none (extf .f32 A Cert.OutProjRefIdeal.Gen.bitsLt_bf16_f32) W) Cert.OutProjRefIdeal.Gen.slices_S18432x4096_S2048x4096_16384_0)))⟩] Cert.OutProjRefIdeal.Gen.concatenates_S16384x4096_S2048x4096_S18432x4096_d0

/-- Each window's block at a grid point; the gate's row is the batch of the rows' tile, the context's past the last. -/
theorem blockIdx : ∀ t : Fin cfg0.N, win0_0.index t = ![t.val / 8, 0] ∧ win0_1.index t = ![0, t.val % 8]
    ∧ win0_2.index t = ![t.val / 8, t.val % 8] ∧ win0_3.index t = ![min (t.val / 16) 8, 2, 0, t.val % 8]
    ∧ win0_4.index t = ![t.val / 8, t.val % 8] :=
  (by decide +kernel : ∀ t : Fin grid0.N, _)

/-- What a grid point stores is its tile of the formula. -/
theorem tile (c : Dev nD) (t : Fin cfg0.N) (y) : k0_pay1 (iblk m c 2 t) (iblk m c 3 t) (iblk m c 0 t) (iblk m c 1 t) y
    = residual (m ((c : Thread nD τ).loc main_arg0)) (m ((c : Thread nD τ).loc main_arg1)) (m ((c : Thread nD τ).loc main_arg2)) (m ((c : Thread nD τ).loc main_arg3)) (((cfg0.win 4).blk t).view.emb y) := by
  have hy0 : (y 0 : ℕ) < 1024 := (y 0).isLt
  have hy1 : (y 1 : ℕ) < 512 := (y 1).isLt
  have ht : t.val < 144 := t.isLt
  have e : ((cfg0.win 4).blk t).view.emb y = (ix2 (⟨t.val / 8 * 1024 + y 0, by omega⟩ : Fin 18432) (⟨t.val % 8 * 512 + y 1, by omega⟩ : Fin 4096)) := by
    blk_ext [blockIdx t]
  rw [e]
  pointwise [k0_pay1, residual]
  blk_point [iblk, V, blockIdx t]
  all_goals (simp only [Fin.val_natCast] at *; omega)

/-- The result array after the run. -/
theorem result (c : Dev nD) : (dats m 0 c).arrAt 4 (cfgs 0).N
    = residual (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact tile m c t y

end Cert.OutProjIdeal.Value

/-- The rows after the gated projection equal the formula's, as extended reals. -/
theorem Cert.Proof.algebraic_out : Cert.algebraic_OutProjIdeal_OutProjRefIdeal := by
  pair_intro
  · run_from Cert.OutProjIdeal.Gen.run_main m g
  · hlo_run
    rw [(hagree c).2.2.2]
    exact (Cert.OutProjIdeal.Value.result m c).symm

end
-- ==== Proof.SharedUp.lean ====
module

public import proofs.«01_k».proof.Defs
public import proofs.«01_k».proof.Proof.Gen.SharedUpIdeal.Value
public import proofs.«01_k».proof.Proof.Gen.SharedUpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SharedUpIdeal.Value

open Cert.SharedUpIdeal Cert.SharedUpIdeal.Gen

variable (m : (ℓ : Loc nD τ sig) → Buf (Elt Ideal) ℓ)

/-- The shared expert's hidden rows: a gated unit of two products, the plain formula over the whole arrays. -/
abbrev hidden (A : FVec Ideal S18432x4096 .bf16) (G U : FVec Ideal S4096x1024 .f32) : FVec Ideal S18432x1024 .bf16 :=
  truncf .bf16 (mulf (mulf (Host.dotGeneral Cert.SharedUpRefIdeal.dot_S18432x4096_S4096x1024_S18432x1024_1_0_0_1_n_n none (extf .f32 A Cert.SharedUpRefIdeal.Gen.bitsLt_bf16_f32) G) (Host.divf (broadcastInDim S18432x1024 ![] Cert.SharedUpRefIdeal.Gen.bcast_S_S18432x1024 (constant Cert.SharedUpRefIdeal.S_ .f32 0x3F800000#32)) (addf (broadcastInDim S18432x1024 ![] Cert.SharedUpRefIdeal.Gen.bcast_S_S18432x1024 (constant Cert.SharedUpRefIdeal.S_ .f32 0x3F800000#32)) (Host.exp (Host.negf (Host.dotGeneral Cert.SharedUpRefIdeal.dot_S18432x4096_S4096x1024_S18432x1024_1_0_0_1_n_n none (extf .f32 A Cert.SharedUpRefIdeal.Gen.bitsLt_bf16_f32) G)))))) (Host.dotGeneral Cert.SharedUpRefIdeal.dot_S18432x4096_S4096x1024_S18432x1024_1_0_0_1_n_n none (extf .f32 A Cert.SharedUpRefIdeal.Gen.bitsLt_bf16_f32) U)) Cert.SharedUpRefIdeal.Gen.bitsLt_bf16_f32

/-- Each window's block at a grid point: the rows' tile and the columns' tile. -/
theorem blockIdx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val] :=
  (by decide +kernel : ∀ t : Fin grid0.N, _)

/-- What a grid point stores is its tile of the formula. -/
theorem tile (c : Dev nD) (t : Fin cfg0.N) (y) : k0_pay1 (iblk m c 0 t) (iblk m c 1 t) (iblk m c 2 t) y
    = hidden (m ((c : Thread nD τ).loc main_arg0)) (m ((c : Thread nD τ).loc main_arg1)) (m ((c : Thread nD τ).loc main_arg2)) (((cfg0.win 3).blk t).view.emb y) := by
  pointwise [k0_pay1, hidden]
  simp only [zero_sub]
  blk_point [iblk, V, blockIdx t]

/-- The result array after the run. -/
theorem result (c : Dev nD) : (dats m 0 c).arrAt 3 (cfgs 0).N
    = hidden (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact tile m c t y

end Cert.SharedUpIdeal.Value

/-- The shared expert's hidden rows equal the formula's, as extended reals. -/
theorem Cert.Proof.algebraic_up : Cert.algebraic_SharedUpIdeal_SharedUpRefIdeal := by
  pair_intro
  · run_from Cert.SharedUpIdeal.Gen.run_main m g
  · hlo_run
    exact (Cert.SharedUpIdeal.Value.result m c).symm

end
-- ==== Proof.SharedDown.lean ====
module

public import proofs.«01_k».proof.Defs
public import proofs.«01_k».proof.Proof.Gen.SharedDownIdeal.Value
public import proofs.«01_k».proof.Proof.Gen.SharedDownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SharedDownIdeal.Value

open Cert.SharedDownIdeal Cert.SharedDownIdeal.Gen

variable (m : (ℓ : Loc nD τ sig) → Buf (Elt Ideal) ℓ)

/-- The residual rows plus a projection under a gate: each batch's gate for its latent rows, row 8's for the context. -/
abbrev residual (A : FVec Ideal S18432x1024 .bf16) (W : FVec Ideal S1024x4096 .f32) (H : FVec Ideal S18432x4096 .f32) (M : FVec Ideal S16x6x1x4096 .f32) : FVec Ideal S18432x4096 .f32 :=
  concatenate Cert.SharedDownRefIdeal.S18432x4096 0 [⟨Cert.SharedDownRefIdeal.S16384x4096, (shapeCast _ (addf (shapeCast _ (extractStridedSlice Cert.SharedDownRefIdeal.S16384x4096 ![0, 0] H Cert.SharedDownRefIdeal.Gen.slices_S18432x4096_S16384x4096_0_0) Cert.SharedDownRefIdeal.Gen.shapeCasts_S16384x4096_S8x2048x4096) (mulf (broadcastInDim Cert.SharedDownRefIdeal.S8x2048x4096 ![0, 1, 2] Cert.SharedDownRefIdeal.Gen.bcast_S8x1x4096_S8x2048x4096_0_1_2 (extractStridedSlice Cert.SharedDownRefIdeal.S8x1x4096 ![0, 0, 0] (shapeCast _ (extractStridedSlice Cert.SharedDownRefIdeal.S16x1x1x4096 ![0, 5, 0, 0] M Cert.SharedDownRefIdeal.Gen.slices_S16x6x1x4096_S16x1x1x4096_0_5_0_0) Cert.SharedDownRefIdeal.Gen.shapeCasts_S16x1x1x4096_S16x1x4096) Cert.SharedDownRefIdeal.Gen.slices_S16x1x4096_S8x1x4096_0_0_0)) (shapeCast _ (extractStridedSlice Cert.SharedDownRefIdeal.S16384x4096 ![0, 0] (Host.dotGeneral Cert.SharedDownRefIdeal.dot_S18432x1024_S1024x4096_S18432x4096_1_0_0_1_n_n none (extf .f32 A Cert.SharedDownRefIdeal.Gen.bitsLt_bf16_f32) W) Cert.SharedDownRefIdeal.Gen.slices_S18432x4096_S16384x4096_0_0) Cert.SharedDownRefIdeal.Gen.shapeCasts_S16384x4096_S8x2048x4096))) Cert.SharedDownRefIdeal.Gen.shapeCasts_S8x2048x4096_S16384x4096)⟩, ⟨Cert.SharedDownRefIdeal.S2048x4096, (addf (extractStridedSlice Cert.SharedDownRefIdeal.S2048x4096 ![16384, 0] H Cert.SharedDownRefIdeal.Gen.slices_S18432x4096_S2048x4096_16384_0) (mulf (broadcastInDim Cert.SharedDownRefIdeal.S2048x4096 ![0, 1] Cert.SharedDownRefIdeal.Gen.bcast_S1x4096_S2048x4096_0_1 (shapeCast _ (extractStridedSlice Cert.SharedDownRefIdeal.S1x1x4096 ![8, 0, 0] (shapeCast _ (extractStridedSlice Cert.SharedDownRefIdeal.S16x1x1x4096 ![0, 5, 0, 0] M Cert.SharedDownRefIdeal.Gen.slices_S16x6x1x4096_S16x1x1x4096_0_5_0_0) Cert.SharedDownRefIdeal.Gen.shapeCasts_S16x1x1x4096_S16x1x4096) Cert.SharedDownRefIdeal.Gen.slices_S16x1x4096_S1x1x4096_8_0_0) Cert.SharedDownRefIdeal.Gen.shapeCasts_S1x1x4096_S1x4096)) (extractStridedSlice Cert.SharedDownRefIdeal.S2048x4096 ![16384, 0] (Host.dotGeneral Cert.SharedDownRefIdeal.dot_S18432x1024_S1024x4096_S18432x4096_1_0_0_1_n_n none (extf .f32 A Cert.SharedDownRefIdeal.Gen.bitsLt_bf16_f32) W) Cert.SharedDownRefIdeal.Gen.slices_S18432x4096_S2048x4096_16384_0)))⟩] Cert.SharedDownRefIdeal.Gen.concatenates_S16384x4096_S2048x4096_S18432x4096_d0

/-- Each window's block at a grid point; the gate's row is the batch of the rows' tile, the context's past the last. -/
theorem blockIdx : ∀ t : Fin cfg0.N, win0_0.index t = ![t.val / 8, 0] ∧ win0_1.index t = ![0, t.val % 8]
    ∧ win0_2.index t = ![t.val / 8, t.val % 8] ∧ win0_3.index t = ![min (t.val / 16) 8, 5, 0, t.val % 8]
    ∧ win0_4.index t = ![t.val / 8, t.val % 8] :=
  (by decide +kernel : ∀ t : Fin grid0.N, _)

/-- What a grid point stores is its tile of the formula. -/
theorem tile (c : Dev nD) (t : Fin cfg0.N) (y) : k0_pay1 (iblk m c 2 t) (iblk m c 3 t) (iblk m c 0 t) (iblk m c 1 t) y
    = residual (m ((c : Thread nD τ).loc main_arg0)) (m ((c : Thread nD τ).loc main_arg1)) (m ((c : Thread nD τ).loc main_arg2)) (m ((c : Thread nD τ).loc main_arg3)) (((cfg0.win 4).blk t).view.emb y) := by
  have hy0 : (y 0 : ℕ) < 1024 := (y 0).isLt
  have hy1 : (y 1 : ℕ) < 512 := (y 1).isLt
  have ht : t.val < 144 := t.isLt
  have e : ((cfg0.win 4).blk t).view.emb y = (ix2 (⟨t.val / 8 * 1024 + y 0, by omega⟩ : Fin 18432) (⟨t.val % 8 * 512 + y 1, by omega⟩ : Fin 4096)) := by
    blk_ext [blockIdx t]
  rw [e]
  pointwise [k0_pay1, residual]
  blk_point [iblk, V, blockIdx t]
  all_goals (simp only [Fin.val_natCast] at *; omega)

/-- The result array after the run. -/
theorem result (c : Dev nD) : (dats m 0 c).arrAt 4 (cfgs 0).N
    = residual (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact tile m c t y

end Cert.SharedDownIdeal.Value

/-- The rows after the gated projection equal the formula's, as extended reals. -/
theorem Cert.Proof.algebraic_down : Cert.algebraic_SharedDownIdeal_SharedDownRefIdeal := by
  pair_intro
  · run_from Cert.SharedDownIdeal.Gen.run_main m g
  · hlo_run
    rw [(hagree c).2.2.2]
    exact (Cert.SharedDownIdeal.Value.result m c).symm

end
-- ==== Proof.ExpertsPre.lean ====
/- What the precondition on the tables says: every tile's expert is one of the thirty-two and at least one tile is in use. -/
module

public import proofs.«01_k».proof.Proof.SwaClaim
public import proofs.«01_k».proof.Proof.Gen.Pre_tables_ok

@[expose] public section

noncomputable section

namespace Cert.Proof

open Idealize.ShloMosaic

theorem sge_one {a b : BitVec 32} (h : IntOp.cmpi .sge a b = 1#1) : b.toInt ≤ a.toInt := by
  unfold IntOp.cmpi at h
  simp only [BitVec.sle_eq_decide] at h
  by_contra q
  rw [decide_eq_false q] at h
  exact absurd h (by decide)

theorem slt_one {a b : BitVec 32} (h : IntOp.cmpi .slt a b = 1#1) : a.toInt < b.toInt := by
  unfold IntOp.cmpi at h
  simp only [BitVec.slt_eq_decide] at h
  by_contra q
  rw [decide_eq_false q] at h
  exact absurd h (by decide)

theorem toNat_lt_of_toInt {a : BitVec 32} {k : ℕ} (h0 : 0 ≤ a.toInt) (h : a.toInt < k) : a.toNat < k := by
  rw [BitVec.toInt_eq_toNat_cond] at h0 h
  split at h <;> [omega; (have := a.isLt; rw [if_neg ‹_›] at h0; omega)]

/-- The precondition, read at each table. -/
theorem tables_of_pre {F : FTy → Type} [FloatOps F] (x : FVec F Cert.Pre_tables_ok.S81920x4096 .bf16) (te : IVec Cert.Pre_tables_ok.S320 32)
    (nu : IVec Cert.Pre_tables_ok.S1 32) (wg wu : FVec F Cert.Pre_tables_ok.S32x4096x256 .bf16) (wd : FVec F Cert.Pre_tables_ok.S32x256x4096 .bf16)
    (h : Cert.Pre_tables_ok.fn (F := F) x te nu wg wu wd = fun _ => 1#1) :
    (∀ j, (te j).toNat < 32) ∧ ∀ j, 1 ≤ (nu j).toInt := by
  have e := congrFun h (Shape.Idx.first Cert.Pre_tables_ok.Facts.h_S_)
  unfold Cert.Pre_tables_ok.fn at e
  obtain ⟨e1, e2⟩ := (and_one _ _).1 e
  refine ⟨fun j => ?_, fun j => ?_⟩
  · obtain ⟨a, b⟩ := (and_one _ _).1 (reduce_and _ _ _ _ _ rfl e1 j)
    exact toNat_lt_of_toInt (sge_one a) (slt_one b)
  · exact sge_one (reduce_and _ _ _ _ _ rfl e2 j)

end Cert.Proof

end
-- ==== Proof.ExpertsWords.lean ====
/- What the index maps and the guard of the routed-experts kernel compute, as statements about natural numbers. -/
module

public import Idealize.ShloMosaic.Lib.Claim

@[expose] public section

namespace Cert.ExpertsWords

open Idealize.ShloMosaic

/-- A tile number as a 32-bit word reads back as itself, signed or not. -/
theorem ofNat_toInt {i : ℕ} (hi : i < 320) : (BitVec.ofNat 32 i).toInt = i := by
  rw [BitVec.toInt_eq_toNat_cond, BitVec.toNat_ofNat]; split <;> omega

/-- A word that is at least one as a signed number reads the same unsigned. -/
theorem toInt_of_pos {n : BitVec 32} (hn : 1 ≤ n.toInt) : n.toInt = n.toNat := by
  rw [BitVec.toInt_eq_toNat_cond] at hn ⊢
  split at hn
  · rw [if_pos ‹_›]
  · have := n.isLt; omega

theorem toNat_pos {n : BitVec 32} (hn : 1 ≤ n.toInt) : 1 ≤ n.toNat := by
  have := toInt_of_pos hn; omega

/-- The row block a tile reads and writes: its own, or the last one in use. -/
theorem min_toNat {i : ℕ} (hi : i < 320) {n : BitVec 32} (hn : 1 ≤ n.toInt) :
    (Scalar.minsi (BitVec.ofNat 32 i) (Scalar.subi n 1#32)).toNat = min i (n.toNat - 1) := by
  have h1 := toInt_of_pos hn
  have h2 := toNat_pos hn
  have h3 : (n - 1#32).toNat = n.toNat - 1 := by
    rw [BitVec.toNat_sub]; have := n.isLt; simp; omega
  have h4 : (n - 1#32).toInt = n.toNat - 1 := by
    have h5 : n.toNat < 2 ^ 31 := by
      rw [BitVec.toInt_eq_toNat_cond] at h1; split at h1 <;> omega
    rw [BitVec.toInt_eq_toNat_cond, if_pos (by omega), h3]; omega
  unfold Scalar.minsi Scalar.subi IntOp.minsi IntOp.subi
  rw [BitVec.slt_eq_decide, ofNat_toInt hi, h4]
  split
  · rename_i h
    rw [decide_eq_true_iff] at h
    rw [BitVec.toNat_ofNat]; omega
  · rename_i h
    rw [decide_eq_true_iff] at h
    rw [h3]; omega

/-- The guard holds exactly at the tiles in use. -/
theorem guard_iff {i : ℕ} (hi : i < 320) {n : BitVec 32} (hn : 1 ≤ n.toInt) :
    Scalar.cmpi .ne (Scalar.extui (Scalar.cmpi .slt (BitVec.ofNat 32 i) n)) 0#32 = 1#1 ↔ i < n.toNat := by
  have h1 := toInt_of_pos hn
  have h : (BitVec.ofNat 32 i).slt n = decide (i < n.toNat) := by
    rw [BitVec.slt_eq_decide, ofNat_toInt hi, h1]; simp
  unfold Scalar.cmpi Scalar.extui IntOp.cmpi
  simp only [h]
  by_cases q : i < n.toNat <;> simp [q] <;> decide

end Cert.ExpertsWords

end
-- ==== Proof.ExpertsIdealBody.lean ====
/- The body of the routed-experts kernel, run once for a tile in use and once for a tile past the used ones. -/
module

public import proofs.«01_k».proof.Proof.Gen.ExpertsIdeal.Skeleton
public import proofs.«01_k».proof.Proof.Gen.ExpertsIdeal.Launch
public import Idealize.ShloMosaic.Lib.Pipeline.TableIdle
public import Idealize.ShloMosaic.Lib.Pipeline.FrameBody
public import Idealize.ShloMosaic.Lib.Pipeline.Value
public import Idealize.ShloMosaic.Lib.Pipeline.ReadBack
public import Idealize.ShloMosaic.Lib.Writes
public import Idealize.ShloMosaic.Lib.VecWindow
public import Idealize.ShloMosaic.Lib.Exec
public import Idealize.ShloMosaic.Lib.Tactic

@[expose] public section

set_option maxRecDepth 16384

noncomputable section

namespace Cert.ExpertsIdealProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables of tile experts and of the number of tiles in use, as the body is handed them. -/
abbrev teM : Memref sig .tc .smem S320 .i32 := Memref.whole main_arg1
abbrev nuM : Memref sig .tc .smem S1 .i32 := Memref.whole main_arg2

/-- The number of tiles in use, as the body reads it from its table. -/
abbrev nuRead (T : S1.Idx → Elt F .i32) : Elt F .i32 :=
  View.readAt (Elt F) nuM.view (Rect.unit (s := S1) ![0] S1.size inb_S1_S1_0).toLoadRect T
    (Shape.Idx.first (numel1_S1.symm ▸ Nat.one_pos))

set_option maxHeartbeats 4000000 in
/-- At a tile in use the body leaves the tile's expert applied to its rows in the output's staging buffer. -/
theorem run_used (c : Dev nD) (i : grid0.Coords)
    (arg3 : Memref sig .tc .vmem S256x4096 .bf16) (h3 : arg3.IsWhole) (arg4 : Memref sig .tc .vmem S1x4096x256 .bf16) (h4 : arg4.IsWhole)
    (arg5 : Memref sig .tc .vmem S1x4096x256 .bf16) (h5 : arg5.IsWhole) (arg6 : Memref sig .tc .vmem S1x256x4096 .bf16) (h6 : arg6.IsWhole)
    (arg7 : Memref sig .tc .vmem S256x4096 .bf16) (h7 : arg7.IsWhole)
    (T0 : S320.Idx → Elt F .i32) (T1 : S1.Idx → Elt F .i32)
    (x0 : Vec F S256x4096 .bf16) (x1 x2 : Vec F S1x4096x256 .bf16) (x3 : Vec F S1x256x4096 .bf16)
    (hc : k0_cond1 i (View.readAt (Elt F) nuM.view (Rect.unit (s := S1) ![0] S1.size inb_S1_S1_0).toLoadRect T1 (Shape.Idx.first (numel1_S1.symm ▸ Nat.one_pos))) = 1#1) (K : PUnit → sProp 𝕄) :
    iprop((arg3.view.loc (c : Thread nD τ) ↦[arg3.view.set]{fullShare} arg3.view.rep x0) ∗ (arg4.view.loc (c : Thread nD τ) ↦[arg4.view.set]{fullShare} arg4.view.rep x1)
        ∗ (arg5.view.loc (c : Thread nD τ) ↦[arg5.view.set]{fullShare} arg5.view.rep x2) ∗ (arg6.view.loc (c : Thread nD τ) ↦[arg6.view.set]{fullShare} arg6.view.rep x3)
        ∗ (teM.view.loc (c : Thread nD τ) ↦{fullShare.right} T0) ∗ (nuM.view.loc (c : Thread nD τ) ↦{fullShare.right} T1)
        ∗ (∃ d, owns (c : Thread nD τ) arg7 fullShare d)
        ∗ (iprop((arg3.view.loc (c : Thread nD τ) ↦[arg3.view.set]{fullShare} arg3.view.rep x0) ∗ (arg4.view.loc (c : Thread nD τ) ↦[arg4.view.set]{fullShare} arg4.view.rep x1)
            ∗ (arg5.view.loc (c : Thread nD τ) ↦[arg5.view.set]{fullShare} arg5.view.rep x2) ∗ (arg6.view.loc (c : Thread nD τ) ↦[arg6.view.set]{fullShare} arg6.view.rep x3)
            ∗ (teM.view.loc (c : Thread nD τ) ↦{fullShare.right} T0) ∗ (nuM.view.loc (c : Thread nD τ) ↦{fullShare.right} T1)
            ∗ owns (c : Thread nD τ) arg7 fullShare (k0_pay1 x0 x1 x2 x3)) -∗ K ⟨⟩))
      ⊢ wp frame (wpE (defs₀ (F := F)) Variants.none c none) Set.univ
          (cc0_routed_experts i teM (Memref.isWhole_whole _) nuM (Memref.isWhole_whole _) arg3 h3 arg4 h4 arg5 h5 arg6 h6 arg7 h7) K := by
  unfold owns
  rw [cc0_routed_experts_eq_skeleton]; unfold cc0_routed_experts_skel
  iintro ⟨H0, H1, H2, H3, HT0, HT1, ⟨%d4, %f4, -, HO4⟩, Hk⟩
  have hT0 : teM.IsWhole := Memref.isWhole_whole _
  have hT1 : nuM.IsWhole := Memref.isWhole_whole _
  sl_exec! (disch := first | (guard_target = k0_cond1 _ _ = _; exact hc))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; swap
  · iexact HO4
  ipureintro
  unfold run_used.sl.HO4_1
  refine (View.read_writes_full _ _ _ _ _).trans ?_
  congr 1 <;> exact View.readAt_rep_full _ _ _

set_option maxHeartbeats 4000000 in
/-- At a tile past the used ones the body touches nothing. -/
theorem run_past (c : Dev nD) (i : grid0.Coords)
    (arg3 : Memref sig .tc .vmem S256x4096 .bf16) (h3 : arg3.IsWhole) (arg4 : Memref sig .tc .vmem S1x4096x256 .bf16) (h4 : arg4.IsWhole)
    (arg5 : Memref sig .tc .vmem S1x4096x256 .bf16) (h5 : arg5.IsWhole) (arg6 : Memref sig .tc .vmem S1x256x4096 .bf16) (h6 : arg6.IsWhole)
    (arg7 : Memref sig .tc .vmem S256x4096 .bf16) (h7 : arg7.IsWhole)
    (T0 : S320.Idx → Elt F .i32) (T1 : S1.Idx → Elt F .i32)
    (hc : ¬ k0_cond1 i (nuRead T1) = 1#1) (K : PUnit → sProp 𝕄) :
    iprop((teM.view.loc (c : Thread nD τ) ↦{fullShare.right} T0) ∗ (nuM.view.loc (c : Thread nD τ) ↦{fullShare.right} T1)
        ∗ (iprop((teM.view.loc (c : Thread nD τ) ↦{fullShare.right} T0) ∗ (nuM.view.loc (c : Thread nD τ) ↦{fullShare.right} T1)) -∗ K ⟨⟩))
      ⊢ wp frame (wpE (defs₀ (F := F)) Variants.none c none) Set.univ
          (cc0_routed_experts i teM (Memref.isWhole_whole _) nuM (Memref.isWhole_whole _) arg3 h3 arg4 h4 arg5 h5 arg6 h6 arg7 h7) K := by
  rw [cc0_routed_experts_eq_skeleton]; unfold cc0_routed_experts_skel
  iintro ⟨HT0, HT1, Hk⟩
  have hT0 : teM.IsWhole := Memref.isWhole_whole _
  have hT1 : nuM.IsWhole := Memref.isWhole_whole _
  sl_exec! (disch := first | (guard_target = ¬(k0_cond1 _ _ = _); exact hc))
  sl_step
  iapply Hk
  isplitl [HT0]; · iexact HT0
  iexact HT1

end Cert.ExpertsIdealProof

end
-- ==== Proof.ExpertsIdealFrame.lean ====
/- The routed-experts kernel run over its grid: every tile in use stores its expert's result, every tile past them leaves
   the last one in use where it is; from any memory whose tables keep the blocks inside the arrays. -/
module

public import proofs.«01_k».proof.Proof.ExpertsIdealBody
public import proofs.«01_k».proof.Proof.ExpertsWords
public import Idealize.ShloMosaic.Lib.Pipeline.Frame
public import Idealize.ShloMosaic.Lib.Claim

@[expose] public section

set_option maxRecDepth 16384

noncomputable section

namespace Cert.ExpertsIdealProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory and the tables -/

/-- What a buffer of core `c` holds when the program starts. -/
abbrev V (c : Dev nD) (b : Ref sig .tc) : Buf (Elt F) ((c : Thread nD τ).loc b) := m ((c : Thread nD τ).loc b)

set_option maxHeartbeats 800000 in
/-- The program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of tiles in use. -/
def nu : BitVec 32 := tbl m 1 (Shape.Idx.first (s := S1) (numel1_S1.symm ▸ Nat.one_pos))
/-- The expert of tile `j`. -/
def te (j : Fin 320) : BitVec 32 := tbl m 0 ((fun a => ⟨j.val, by fin_cases a; exact j.isLt⟩ : S320.Idx))

theorem idx1_eq (x y : S1.Idx) : x = y := by
  funext a; fin_cases a; exact Subsingleton.elim (α := Fin 1) (x 0) (y 0)

theorem nuRead_eq : nuRead (F := F) (tbl m 1) = nu m := congrArg (tbl m 1 : S1.Idx → Elt F .i32) (idx1_eq _ _)

theorem coords_val (t : Fin grid0.N) : ((grid0.coords t) 0).val = t.val := by
  have h : t.val < 320 := t.isLt
  show t.val / 1 % 320 = t.val
  omega

theorem atD_eq : (tbl m).atD 1 ![0] = nu m := by
  unfold Pipeline.Prefetch.Contents.atD
  rw [dif_pos (by intro a; fin_cases a; decide)]
  exact congrArg (tbl m 1 : S1.Idx → Elt F .i32) (idx1_eq _ _)

/-! ## The schedule of the output window -/

variable (hO : Ok m) (hn : 1 ≤ (nu m).toInt)

include hn in
theorem guard_iff (t : Fin grid0.N) : k0_cond1 (grid0.coords t) (nu m) = 1#1 ↔ t.val < (nu m).toNat := by
  have h := ExpertsWords.guard_iff (i := t.val) (by exact t.isLt) hn
  unfold k0_cond1
  rw [coords_val]; exact h

include hn in
theorem index4 (t : Fin (cfgM m hO).N) : ((cfgM m hO).win (4 : Fin 5)).index t = ![min t.val ((nu m).toNat - 1), 0] := by
  have h := ExpertsWords.min_toNat (i := t.val) (by exact t.isLt) hn
  have e : (tbl m).at 1 (Rect.unit (s := S1) ![0] S1.size inb_S1_S1_0) numel1_S1 = nu m :=
    congrArg (tbl m 1 : S1.Idx → Elt F .i32) (idx1_eq _ _)
  have k := coords_val t
  show ![(Scalar.minsi (BitVec.ofNat 32 ((grid0.coords t) 0).val)
    (Scalar.subi ((tbl m).at 1 (Rect.unit (s := S1) ![0] S1.size inb_S1_S1_0) numel1_S1) 1#32)).toNat, 0] = _
  rw [e, k, h]

include hn in
theorem idle4_used (t : Fin (cfgM m hO).N) (h : t.val < (nu m).toNat) : (cfgM m hO).idle (4 : Fin 5) ((cfgM m hO).grid.coords t) = false := by
  show (!(k0_cond1 (grid0.coords t) ((tbl m).atD 1 ![0]) == 1#1)) = false
  rw [atD_eq, (guard_iff m hn t).2 h]; rfl

include hn in
theorem idle4_past (t : Fin (cfgM m hO).N) (h : ¬ t.val < (nu m).toNat) : (cfgM m hO).idle (4 : Fin 5) ((cfgM m hO).grid.coords t) = true := by
  show (!(k0_cond1 (grid0.coords t) ((tbl m).atD 1 ![0]) == 1#1)) = true
  rw [atD_eq]
  have : ¬ k0_cond1 (grid0.coords t) (nu m) = 1#1 := fun q => h ((guard_iff m hn t).1 q)
  simp [this]

include hn in
/-- From the last tile in use on, the output's block stays where it is until the end. -/
theorem flush4_late (t : Fin (cfgM m hO).N) (h : (nu m).toNat - 1 ≤ t.val) (ht : t.val + 1 < 320) : ((cfgM m hO).win (4 : Fin 5)).flush t = false := by
  unfold Window.flush
  rw [Bool.and_eq_false_iff]; right
  rw [Bool.or_eq_false_iff]
  refine ⟨decide_eq_false (by show ¬ t.val + 1 = 320; omega), decide_eq_false ?_⟩
  rintro ⟨h1, h2⟩
  apply h2
  rw [index4 m hO hn, index4 m hO hn]
  simp only
  rw [Nat.min_eq_right (by omega), Nat.min_eq_right h]

include hn in
theorem fresh4_past : ∀ t : ℕ, t < 320 → (nu m).toNat ≤ t → (cfgM m hO).fresh (4 : Fin 5) t = false
  | 0, _, h => by have := ExpertsWords.toNat_pos hn; omega
  | k + 1, hk, h => by
    rw [Pipeline.Cfg.fresh_succ _ _ k (by show k < 320; omega), flush4_late m hO hn ⟨k, by show k < 320; omega⟩ (by simp only; omega) (by simp only; omega), Bool.false_or]
    by_cases q : k < (nu m).toNat
    · rw [idle4_used m hO hn ⟨k, by show k < 320; omega⟩ q, Bool.false_and]
    · rw [fresh4_past k (by omega) (by omega), Bool.and_false]

/-! ## The blocks and the proof data -/

/-- Window `w`'s block at tile `t`. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The tile whose result the output's staging buffer holds after tile `t`: its own, or the last one in use. -/
def cut (t : Fin (cfgM m hO).N) : Fin (cfgM m hO).N := ⟨min t.val ((nu m).toNat - 1), lt_of_le_of_lt (Nat.min_le_left _ _) t.isLt⟩

/-- The result of tile `t`: its expert applied to its rows. -/
def res (c : Dev nD) (t : Fin (cfgM m hO).N) : Vec F S256x4096 .bf16 :=
  k0_pay1 (iblk m hO c (0 : Fin 5) t) (iblk m hO c (1 : Fin 5) t) (iblk m hO c (2 : Fin 5) t) (iblk m hO c (3 : Fin 5) t)

def dats (_ : Fin 1) (c : Dev nD) : Dat τ (Elt F) Unit ℕ (UR sig nD τ) ℕ (cfgM m hO) c where
  A w := V m c (Pipeline.arrRef spec0 w)
  after w t := match w with
    | ⟨0, _⟩ => iblk m hO c (0 : Fin 5) t
    | ⟨1, _⟩ => iblk m hO c (1 : Fin 5) t
    | ⟨2, _⟩ => iblk m hO c (2 : Fin 5) t
    | ⟨3, _⟩ => iblk m hO c (3 : Fin 5) t
    | ⟨4, _⟩ => res m hO c (cut m hO t)
  Φ _ := iprop(Pipeline.ΦA spec0 c ∗ Pipeline.ΦT pre0 (tbl m) c)
  q _ := fullShare
  owed _ := 0

theorem A_eq (c : Dev nD) (w : Fin (cfgM m hO).W) : (dats m hO 0 c).A w = V m c (Pipeline.arrRef spec0 w) := by
  dsimp only [dats]

theorem after0_0 (c : Dev nD) (t : Fin (cfgM m hO).N) : (dats m hO 0 c).after (0 : Fin 5) t = iblk m hO c (0 : Fin 5) t := by dsimp only [dats]; try rfl
theorem after0_1 (c : Dev nD) (t : Fin (cfgM m hO).N) : (dats m hO 0 c).after (1 : Fin 5) t = iblk m hO c (1 : Fin 5) t := by dsimp only [dats]; try rfl
theorem after0_2 (c : Dev nD) (t : Fin (cfgM m hO).N) : (dats m hO 0 c).after (2 : Fin 5) t = iblk m hO c (2 : Fin 5) t := by dsimp only [dats]; try rfl
theorem after0_3 (c : Dev nD) (t : Fin (cfgM m hO).N) : (dats m hO 0 c).after (3 : Fin 5) t = iblk m hO c (3 : Fin 5) t := by dsimp only [dats]; try rfl
theorem after0_4 (c : Dev nD) (t : Fin (cfgM m hO).N) : (dats m hO 0 c).after (4 : Fin 5) t = res m hO c (cut m hO t) := by dsimp only [dats]; try rfl

theorem before0_0 (c : Dev nD) (t : Fin (cfgM m hO).N) (d) : (dats m hO 0 c).before (0 : Fin 5) t d = iblk m hO c (0 : Fin 5) t :=
  ((dats m hO 0 c).before_in_eq_fetched (0 : Fin 5) rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m hO).N) (d) : (dats m hO 0 c).before (1 : Fin 5) t d = iblk m hO c (1 : Fin 5) t :=
  ((dats m hO 0 c).before_in_eq_fetched (1 : Fin 5) rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m hO).N) (d) : (dats m hO 0 c).before (2 : Fin 5) t d = iblk m hO c (2 : Fin 5) t :=
  ((dats m hO 0 c).before_in_eq_fetched (2 : Fin 5) rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m hO).N) (d) : (dats m hO 0 c).before (3 : Fin 5) t d = iblk m hO c (3 : Fin 5) t :=
  ((dats m hO 0 c).before_in_eq_fetched (3 : Fin 5) rfl (fun _ => rfl) (fun _ _ _ => rfl) (fun t => by rw [after0_3]; unfold Dat.blockOf iblk; rw [A_eq]; try rfl) t d).trans
    (by unfold Dat.fetched Dat.blockOf iblk; rw [A_eq]; try rfl)

theorem cut_used (t : Fin (cfgM m hO).N) (h : t.val < (nu m).toNat) : cut m hO t = t :=
  Fin.ext (Nat.min_eq_left (by omega))

/-- Past the tiles in use the result carried does not change. -/
theorem cut_past (t : Fin (cfgM m hO).N) (h : ¬ t.val < (nu m).toNat) (h0 : t.val - 1 < (cfgM m hO).N) :
    cut m hO t = cut m hO ⟨t.val - 1, h0⟩ :=
  Fin.ext (by unfold cut; simp only; omega)

include hn in
theorem carry4 (c : Dev nD) (t : Fin (cfgM m hO).N) (ht : t.val ≠ 0) (hi : (cfgM m hO).idle (4 : Fin 5) ((cfgM m hO).grid.coords t) = true)
    (hf : (cfgM m hO).fresh (4 : Fin 5) t.val = false) : (dats m hO 0 c).after (4 : Fin 5) t = (dats m hO 0 c).after (4 : Fin 5) ⟨t.val - 1, by omega⟩ := by
  by_cases q : t.val < (nu m).toNat
  · rw [idle4_used m hO hn t q] at hi; exact absurd hi (by decide)
  · rw [after0_4, after0_4, cut_past m hO t q]

include hn in
/-- At a tile past the used ones the output's buffer holds the last used tile's result. -/
theorem before4_past (c : Dev nD) (t : Fin (cfgM m hO).N) (h : ¬ t.val < (nu m).toNat) (d) :
    (dats m hO 0 c).before (4 : Fin 5) t d = res m hO c (cut m hO t) := by
  rw [(dats m hO 0 c).before_out_traj (4 : Fin 5) rfl (fun _ _ => rfl) (carry4 m hO hn c) t.val t rfl d,
    fresh4_past m hO hn t.val t.isLt (by omega), after0_4, ← cut_past m hO t h]
  rfl

/-! ## The body at every tile -/

/-- The tables' halves the body is handed. -/
theorem PhiT0_eq (c : Dev nD) : (Pipeline.ΦT pre0 (tbl m) c : sProp 𝕄)
    = iprop((teM.view.loc (c : Thread nD τ) ↦{fullShare.right} (tbl m 0 : S320.Idx → Elt F .i32)) ∗ (nuM.view.loc (c : Thread nD τ) ↦{fullShare.right} (tbl m 1 : S1.Idx → Elt F .i32))) := by
  unfold Pipeline.ΦT Pipeline.prefHeld
  rw [show (Finset.univ : Finset (Fin 2)) = insert (0 : Fin 2) {(1 : Fin 2)} from by decide,
    bigSep_insert (by decide), bigSep_singleton]
  rfl

abbrev ms0_0 (t : Fin (cfgM m hO).N) : Memref sig .tc .vmem S256x4096 .bf16 := spec0_0.stage ((cfgM m hO).slots t 0)
abbrev hs0_0 (t : Fin (cfgM m hO).N) : (ms0_0 m hO t).IsWhole := hstage0_0 (((cfgM m hO).slots t 0).cast nbuf0_0)
abbrev ms0_1 (t : Fin (cfgM m hO).N) : Memref sig .tc .vmem S1x4096x256 .bf16 := spec0_1.stage ((cfgM m hO).slots t 1)
abbrev hs0_1 (t : Fin (cfgM m hO).N) : (ms0_1 m hO t).IsWhole := hstage0_1 (((cfgM m hO).slots t 1).cast nbuf0_1)
abbrev ms0_2 (t : Fin (cfgM m hO).N) : Memref sig .tc .vmem S1x4096x256 .bf16 := spec0_2.stage ((cfgM m hO).slots t 2)
abbrev hs0_2 (t : Fin (cfgM m hO).N) : (ms0_2 m hO t).IsWhole := hstage0_2 (((cfgM m hO).slots t 2).cast nbuf0_2)
abbrev ms0_3 (t : Fin (cfgM m hO).N) : Memref sig .tc .vmem S1x256x4096 .bf16 := spec0_3.stage ((cfgM m hO).slots t 3)
abbrev hs0_3 (t : Fin (cfgM m hO).N) : (ms0_3 m hO t).IsWhole := hstage0_3 (((cfgM m hO).slots t 3).cast nbuf0_3)
abbrev ms0_4 (t : Fin (cfgM m hO).N) : Memref sig .tc .vmem S256x4096 .bf16 := spec0_4.stage ((cfgM m hO).slots t 4)
abbrev hs0_4 (t : Fin (cfgM m hO).N) : (ms0_4 m hO t).IsWhole := hstage0_4 (((cfgM m hO).slots t 4).cast nbuf0_4)

/-- The body at tile `t`, on the buffers it is called with there. -/
abbrev bodyAt (t : Fin (cfgM m hO).N) : Prog (TpuEff nD τ sig (Elt F) Λ₀ .tc) PUnit :=
  cc0_routed_experts (grid0.coords t) teM (Memref.isWhole_whole _) nuM (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t)

theorem defs₀_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 4000000 in
include hn in
theorem sound_body (c : Dev nD) (t : Fin (cfgM m hO).N) :
    iprop((dats m hO 0 c).Φ t.castSucc ∗ (dats m hO 0 c).owesAt () t.castSucc
        ∗ (∃ d, owns (c : Thread nD τ) (ms0_0 m hO t) fullShare ((dats m hO 0 c).before (0 : Fin 5) t d))
        ∗ (∃ d, owns (c : Thread nD τ) (ms0_1 m hO t) fullShare ((dats m hO 0 c).before (1 : Fin 5) t d))
        ∗ (∃ d, owns (c : Thread nD τ) (ms0_2 m hO t) fullShare ((dats m hO 0 c).before (2 : Fin 5) t d))
        ∗ (∃ d, owns (c : Thread nD τ) (ms0_3 m hO t) fullShare ((dats m hO 0 c).before (3 : Fin 5) t d))
        ∗ (∃ d, owns (c : Thread nD τ) (ms0_4 m hO t) fullShare ((dats m hO 0 c).before (4 : Fin 5) t d)))
      ⊢ wp frame (wpE (defs₀ (F := F)) Variants.none c none) Set.univ (bodyAt m hO t) fun _ =>
          iprop((dats m hO 0 c).Φ t.succ ∗ (dats m hO 0 c).owesAt () t.succ
            ∗ bigSep Finset.univ fun w : Fin (cfgM m hO).W =>
                match (cfgM m hO).idle w ((cfgM m hO).grid.coords t) with
                | true =>
                  match ((cfgM m hO).win w).flush t with
                  | false => iprop(∃ d, owns (c : Thread nD τ) (((cfgM m hO).win w).stage ((cfgM m hO).slots t w)) fullShare ((dats m hO 0 c).before w t d))
                  | true => owns (c : Thread nD τ) (((cfgM m hO).win w).stage ((cfgM m hO).slots t w)) fullShare ((dats m hO 0 c).after w t)
                | false => owns (c : Thread nD τ) (((cfgM m hO).win w).stage ((cfgM m hO).slots t w)) fullShare ((dats m hO 0 c).after w t)) := by
  rw [bigSep_W0]
  by_cases q : t.val < (nu m).toNat
  · rewrite [idle4_used m hO hn t q]
    simp only [before0_0, before0_1, before0_2, before0_3, after0_0, after0_1, after0_2, after0_3, after0_4]
    rw [show (dats m hO 0 c).Φ t.succ = (dats m hO 0 c).Φ t.castSucc from rfl,
      show (dats m hO 0 c).owesAt () t.succ = (dats m hO 0 c).owesAt () t.castSucc from rfl]
    rw [show (dats m hO 0 c).Φ t.castSucc = iprop(Pipeline.ΦA spec0 c ∗ Pipeline.ΦT pre0 (tbl m) c) from rfl, PhiT0_eq]
    rw [cut_used m hO t q]
    have hc : k0_cond1 (grid0.coords t) (nuRead (F := F) (tbl m 1)) = 1#1 := by rw [nuRead_eq]; exact (guard_iff m hn t).2 q
    iintro ⟨⟨HΦ, ⟨HT0, HT1⟩⟩, Ho, ⟨%d0, H0⟩, ⟨%d1, H1⟩, ⟨%d2, H2⟩, ⟨%d3, H3⟩, ⟨%d4, H4⟩⟩
    iapply (run_used c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (tbl m 0) (tbl m 1) (iblk m hO c (0 : Fin 5) t) (iblk m hO c (1 : Fin 5) t) (iblk m hO c (2 : Fin 5) t) (iblk m hO c (3 : Fin 5) t) hc _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, H4⟩
    isplitl [HΦ HT0 HT1]
    · isplitl [HΦ]
      · iexact HΦ
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4
  · have hc : ¬ k0_cond1 (grid0.coords t) (nuRead (F := F) (tbl m 1)) = 1#1 := by rw [nuRead_eq]; exact fun h => q ((guard_iff m hn t).1 h)
    rewrite [idle4_past m hO hn t q]
    cases f4 : ((cfgM m hO).win (4 : Fin 5)).flush t
    all_goals
      simp only [before0_0, before0_1, before0_2, before0_3, before4_past m hO hn c t q, f4, after0_0, after0_1, after0_2, after0_3, after0_4]
      rw [show (dats m hO 0 c).Φ t.succ = (dats m hO 0 c).Φ t.castSucc from rfl,
        show (dats m hO 0 c).owesAt () t.succ = (dats m hO 0 c).owesAt () t.castSucc from rfl]
      rw [show (dats m hO 0 c).Φ t.castSucc = iprop(Pipeline.ΦA spec0 c ∗ Pipeline.ΦT pre0 (tbl m) c) from rfl, PhiT0_eq]
      iintro ⟨⟨HΦ, ⟨HT0, HT1⟩⟩, Ho, ⟨%d0, H0⟩, ⟨%d1, H1⟩, ⟨%d2, H2⟩, ⟨%d3, H3⟩, ⟨%d4, H4⟩⟩
      iapply (run_past c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (tbl m 0) (tbl m 1) hc _)
      isplitl [HT0]; · iexact HT0
      isplitl [HT1]; · iexact HT1
      iintro ⟨HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      first | (iexists d4; iexact H4) | iexact H4

include hn in
theorem body_obligation (c : Dev nD) : BodyObligation (dats (F := F) m hO 0 c) (defs₀ (F := F)) Variants.none () Set.univ := fun t => by
  rw [bigSep_W0, defs₀_row m hO]
  exact sound_body m hO hn c t

/-! ## The whole run -/

set_option backward.isDefEq.respectTransparency.types false in
include hn in
/-- The whole run: every array ends as the blocks stored into it say, every other argument as it was. -/
theorem run_main : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO hn c).loose) (hshare := fun c => (dats m hO 0 c).share_full fun _ => rfl)
    (howed := fun _ _ => rfl) (V := V m) (hmain := hmain m Variants.none) (hA := A_eq m hO) (hpf := V_pre m) (hΦ := fun _ _ => rfl)

include hn in
/-- The run ends with the result array at the stored blocks, the arguments unchanged and every counter at zero. -/
theorem run_result : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 4,
      ((h.1 c).1 0).trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ hO hn)

end Cert.ExpertsIdealProof

end
-- ==== Proof.ExpertsIdealTables.lean ====
/- Tables that name one of the experts and at least one tile in use keep every block inside its array. -/
module

public import proofs.«01_k».proof.Proof.ExpertsIdealFrame
public import Idealize.ShloMosaic.Lib.Pipeline.ValueKit

@[expose] public section

set_option maxRecDepth 16384

noncomputable section

namespace Cert.ExpertsIdealProof

open Cert.ExpertsIdeal Cert.ExpertsIdeal.Gen
open Idealize.ShloMosaic Idealize.ShloMosaic.TcCoe Idealize.SL.Sem

variable {F : FTy → Type} [FloatOps F]

variable (m : (ℓ : Loc nD τ sig) → Buf (Elt F) ℓ)

/-- The word of the expert table that tile `i`'s weight blocks are named by. -/
theorem te_at (i : grid0.Coords) (h : ∀ a, (![(Scalar.indexCast (BitVec.ofNat 32 (i 0).val)).toNat] : Fin 1 → Nat) a + S1.size a ≤ S320.size a) :
    (tbl m).at 0 (Rect.unit (s := S320) ![(Scalar.indexCast (BitVec.ofNat 32 (i 0).val)).toNat] S1.size h) numel1_S1 = te m (i 0) := by
  refine congrArg (tbl m 0 : S320.Idx → Elt F .i32) (funext fun a => Fin.ext ?_)
  fin_cases a
  show (BitVec.ofNat 32 (i 0).val).toNat + 1 * 0 = (i 0).val
  have := (i 0).isLt
  rw [BitVec.toNat_ofNat]
  have e : grid0.bound 0 = 320 := rfl
  omega

theorem nu_at : (tbl m).at 1 (Rect.unit (s := S1) ![0] S1.size inb_S1_S1_0) numel1_S1 = nu m :=
  congrArg (tbl m 1 : S1.Idx → Elt F .i32) (idx1_eq _ _)

theorem tr1 (i : grid0.Coords) : cc0_transform_1 k0_off1_inb numel1_S1 (tbl m) i = ![(te m (i 0)).toNat, 0, 0] := by
  exact congrArg (fun w : BitVec 32 => (![w.toNat, 0, 0] : Fin 3 → Nat)) (te_at m i (k0_off1_inb i))

theorem tr0 (hn : 1 ≤ (nu m).toInt) (i : grid0.Coords) : cc0_transform_0 inb_S1_S1_0 numel1_S1 (tbl m) i = ![min (i 0).val ((nu m).toNat - 1), 0] := by
  have h := ExpertsWords.min_toNat (i := (i 0).val) (i 0).isLt hn
  show ![(Scalar.minsi (BitVec.ofNat 32 (i 0).val)
    (Scalar.subi ((tbl m).at 1 (Rect.unit (s := S1) ![0] S1.size inb_S1_S1_0) numel1_S1) 1#32)).toNat, 0] = _
  rw [nu_at, h]

theorem in_rows (hn : 1 ≤ (nu m).toInt) (i : grid0.Coords) (a : Fin 2) :
    (cc0_transform_0 inb_S1_S1_0 numel1_S1 (tbl m) i a + 1) * S256x4096.size a ≤ S81920x4096.size a := by
  rw [tr0 m hn]
  have h : (i 0).val < 320 := (i 0).isLt
  fin_cases a
  · show (min (i 0).val ((nu m).toNat - 1) + 1) * 256 ≤ 81920
    omega
  · exact (by decide : (0 + 1) * 4096 ≤ 4096)

theorem in_up (ht : ∀ j, (te m j).toNat < 32) (i : grid0.Coords) (a : Fin 3) :
    (cc0_transform_1 k0_off1_inb numel1_S1 (tbl m) i a + 1) * S1x4096x256.size a ≤ S32x4096x256.size a := by
  rw [tr1 m]
  have h := ht (i 0)
  fin_cases a
  · show ((te m (i 0)).toNat + 1) * 1 ≤ 32
    omega
  · exact (by decide : (0 + 1) * 4096 ≤ 4096)
  · exact (by decide : (0 + 1) * 256 ≤ 256)

theorem in_down (ht : ∀ j, (te m j).toNat < 32) (i : grid0.Coords) (a : Fin 3) :
    (cc0_transform_3 k0_off1_inb numel1_S1 (tbl m) i a + 1) * S1x256x4096.size a ≤ S32x256x4096.size a := by
  rw [show cc0_transform_3 k0_off1_inb numel1_S1 (tbl m) i = ![(te m (i 0)).toNat, 0, 0] from tr1 m i]
  have h := ht (i 0)
  fin_cases a
  · show ((te m (i 0)).toNat + 1) * 1 ≤ 32
    omega
  · exact (by decide : (0 + 1) * 256 ≤ 256)
  · exact (by decide : (0 + 1) * 4096 ≤ 4096)

/-- Every block the tables name lies inside its array. -/
theorem ok_of_tables (ht : ∀ j, (te m j).toNat < 32) (hn : 1 ≤ (nu m).toInt) : Ok m :=
  ⟨fun i => ⟨in_rows m hn i, .inr (Affine.block_words_dvd (s := S81920x4096) (p := EltTy.packing .bf16) (by decide) (by decide))⟩,
    fun i => ⟨in_up m ht i, .inr (Affine.block_words_dvd (s := S32x4096x256) (p := EltTy.packing .bf16) (by decide) (by decide))⟩,
    fun i => ⟨in_up m ht i, .inr (Affine.block_words_dvd (s := S32x4096x256) (p := EltTy.packing .bf16) (by decide) (by decide))⟩,
    fun i => ⟨in_down m ht i, .inr (Affine.block_words_dvd (s := S32x256x4096) (p := EltTy.packing .bf16) (by decide) (by decide))⟩,
    fun i => ⟨in_rows m hn i, .inr (Affine.block_words_dvd (s := S81920x4096) (p := EltTy.packing .bf16) (by decide) (by decide))⟩⟩

end Cert.ExpertsIdealProof

end
-- ==== Proof.ExpertsTile.lean ====
/- What a tile's body stores, read at a row and a column: a gated unit of two products, times the expert's last matrix. -/
module

public import proofs.«01_k».proof.Proof.Gen.ExpertsIdeal.Skeleton
public import Idealize.ShloMosaic.Lib.Pointwise

@[expose] public section

set_option maxRecDepth 16384

noncomputable section

namespace Cert.ExpertsIdealProof

open Cert.ExpertsIdeal Cert.ExpertsIdeal.Gen
open Idealize.ShloMosaic Idealize.ShloMosaic.TcCoe Idealize.SL.Sem

variable (x : FVec Ideal S256x4096 .bf16) (wg wu : FVec Ideal S1x4096x256 .bf16) (wd : FVec Ideal S1x256x4096 .bf16)

/-- The product of a tile's row with a column of a matrix block. -/
def tprod (w : FVec Ideal S1x4096x256 .bf16) (p : Fin 256) (f : Fin 256) : EReal :=
  ∑ k : Fin 4096, x (ix2 p k) * w (ix3 0 k f)

theorem pay_apply (p : Fin 256) (d : Fin 4096) : k0_pay1 (F := Ideal) x wg wu wd (ix2 p d)
    = ∑ f : Fin 256, tprod x wg p f * Ideal.div 1 (1 + Ideal.exp (-tprod x wg p f)) * tprod x wu p f * wd (ix3 0 f d) := by
  pointwise [k0_pay1, tprod]
  simp only [zero_sub]

end Cert.ExpertsIdealProof

end
-- ==== Proof.ExpertsRef.lean ====
/- The formula of the routed experts, read at a row: the gates keep the row's own expert alone. -/
module

public import proofs.«01_k».proof.Proof.Gen.ExpertsRefIdeal.Run
public import Idealize.ShloMosaic.Lib.Pointwise
public import Idealize.ShloMosaic.Lib.WordCmp

@[expose] public section

set_option maxRecDepth 16384

noncomputable section

namespace Cert.ExpertsRefIdeal.Value

open Cert.ExpertsRefIdeal Cert.ExpertsRefIdeal.Gen
open Idealize.ShloMosaic Idealize.ShloMosaic.TcCoe Idealize.SL.Sem

variable (x : FVec Ideal S81920x4096 .bf16) (te : IVec S320 32) (wg wu : FVec Ideal S32x4096x256 .bf16) (wd : FVec Ideal S32x256x4096 .bf16)

/-- The formula, as one term of its arguments. -/
def formula : FVec Ideal S81920x4096 .bf16 :=
  truncf .bf16 (Host.dotGeneral dot_S81920x32x256_S32x256x4096_S81920x4096_12_01_0_2_n_n none (truncf .bf16 (mulf (extf .f32 (truncf .bf16 (mulf (mulf (Host.dotGeneral dot_S81920x4096_S32x4096x256_S81920x32x256_1_1_0_02_n_n none x wg) (Host.divf (broadcastInDim S81920x32x256 ![] bcast_S_S81920x32x256 (constant S_ .f32 0x3F800000#32)) (addf (broadcastInDim S81920x32x256 ![] bcast_S_S81920x32x256 (constant S_ .f32 0x3F800000#32)) (Host.exp (Host.negf (Host.dotGeneral dot_S81920x4096_S32x4096x256_S81920x32x256_1_1_0_02_n_n none x wg)))))) (Host.dotGeneral dot_S81920x4096_S32x4096x256_S81920x32x256_1_1_0_02_n_n none x wu)) bitsLt_bf16_f32) bitsLt_bf16_f32) (broadcastInDim S81920x32x256 ![0, 1, 2] bcast_S81920x32x1_S81920x32x256_0_1_2 (broadcastInDim S81920x32x1 ![0, 1] bcast_S81920x32_S81920x32x1_0_1 (uitofp .f32 (cmpi .eq (broadcastInDim S81920x32 ![0, 1] bcast_S81920x1_S81920x32_0_1 (broadcastInDim S81920x1 ![0] bcast_S81920_S81920x1_0 (shapeCast _ (broadcastInDim S320x256 ![0, 1] bcast_S320x1_S320x256_0_1 (broadcastInDim S320x1 ![0] bcast_S320_S320x1_0 te)) shapeCasts_S320x256_S81920))) (broadcastInDim S81920x32 ![0, 1] bcast_S1x32_S81920x32_0_1 (broadcastInDim S1x32 ![1] bcast_S32_S1x32_1 (iotaInDim S32 32 0)))))))) bitsLt_bf16_f32) wd) bitsLt_bf16_f32

/-- The product of a row with a column of expert `e`'s matrix. -/
def prod (w : FVec Ideal S32x4096x256 .bf16) (r : Fin 81920) (e : Fin 32) (f : Fin 256) : EReal :=
  ∑ k : Fin 4096, x (ix2 r k) * w (ix3 e k f)

/-- The hidden value `f` of row `r` under expert `e`. -/
def hidden (r : Fin 81920) (e : Fin 32) (f : Fin 256) : EReal :=
  prod x wg r e f * Ideal.div 1 (1 + Ideal.exp (-prod x wg r e f)) * prod x wu r e f

/-- Row `r` under expert `e`, at column `d`. -/
def one (e : Fin 32) (r : Fin 81920) (d : Fin 4096) : EReal :=
  ∑ f : Fin 256, hidden x wg wu r e f * wd (ix3 e f d)

/-- A gate is one at the row's own expert and zero at the others. -/
theorem gate (w : BitVec 32) (e e' : Fin 32) (he : w.toNat = e.val) :
    (FloatOps.uitofp (F := Ideal) FTy.f32 (IntOp.cmpi .eq w (BitVec.ofNat 32 e'.val)) : EReal) = if e' = e then 1 else 0 := by
  show (((IntOp.cmpi .eq w (BitVec.ofNat 32 e'.val)).toNat : ℝ) : EReal) = _
  have h : (BitVec.ofNat 32 e'.val).toNat = e'.val := by rw [BitVec.toNat_ofNat]; omega
  rw [WordCmp.cmpi_eq_eq_toNat, h, he]
  by_cases q : e' = e
  · subst q; simp
  · have : ¬ e.val = e'.val := fun k => q (Fin.ext k.symm)
    simp [q, this]

theorem formula_apply (r : Fin 81920) (d : Fin 4096) (e : Fin 32) (he : (te (ix1 ⟨r.val / 256, by omega⟩)).toNat = e.val) :
    formula x te wg wu wd (ix2 r d) = one x wg wu wd e r d := by
  pointwise [formula]
  have g := fun e' => gate _ e e' he
  refine (Finset.sum_congr rfl fun e' _ => Finset.sum_congr rfl fun f _ => congrArg (· * wd (ix3 e' f d)) (congrArg _ (g e'))).trans ?_
  refine (Finset.sum_eq_single e (fun e' _ q => ?_) (fun q => absurd (Finset.mem_univ _) q)).trans ?_
  · refine Finset.sum_eq_zero fun f _ => ?_
    simp only [if_neg q, mul_zero, zero_mul]
  · unfold one hidden prod
    simp only [if_true, mul_one]

end Cert.ExpertsRefIdeal.Value

end
-- ==== Proof.ExpertsValue.lean ====
/- The result array after the run: every row of a tile in use is its tile's expert applied to that row. -/
module

public import proofs.«01_k».proof.Proof.ExpertsIdealTables
public import proofs.«01_k».proof.Proof.ExpertsTile
public import proofs.«01_k».proof.Proof.ExpertsRef
public import Idealize.ShloMosaic.Lib.Pipeline.ValueKit
public import Idealize.ShloMosaic.Lib.Pipeline.Covers
public import Idealize.ShloMosaic.Lib.Pointwise

@[expose] public section

set_option maxRecDepth 16384

noncomputable section

namespace Cert.ExpertsIdealProof

open Cert.ExpertsIdeal Cert.ExpertsIdeal.Gen
open Idealize.ShloMosaic Idealize.ShloMosaic.TcCoe Idealize.SL.Sem
open Idealize.ShloMosaic.Pipeline (Dat Window)

/-- The row of the array that row `p` of tile `t` is. -/
def row (t : Fin 320) (p : Fin 256) : Fin 81920 := ⟨t.val * 256 + p.val, by omega⟩

variable (m : (ℓ : Loc nD τ sig) → Buf (Elt Ideal) ℓ)
variable (hO : Ok m) (hn : 1 ≤ (nu m).toInt) (ht : ∀ j, (te m j).toNat < 32)

include hn in
theorem index0 (t : Fin (cfgM m hO).N) : ((cfgM m hO).win (0 : Fin 5)).index t = ![min t.val ((nu m).toNat - 1), 0] :=
  index4 m hO hn t

theorem index1 (t : Fin (cfgM m hO).N) : ((cfgM m hO).win (1 : Fin 5)).index t = ![(te m t).toNat, 0, 0] := by
  have e : (grid0.coords t) 0 = t := Fin.ext (coords_val t)
  have h := tr1 m (grid0.coords t)
  rw [e] at h
  exact h

theorem index2 (t : Fin (cfgM m hO).N) : ((cfgM m hO).win (2 : Fin 5)).index t = ![(te m t).toNat, 0, 0] := index1 m hO t
theorem index3 (t : Fin (cfgM m hO).N) : ((cfgM m hO).win (3 : Fin 5)).index t = ![(te m t).toNat, 0, 0] := index1 m hO t

include hn in
theorem read0 (c : Dev nD) (t : Fin (cfgM m hO).N) (u : t.val ≤ (nu m).toNat - 1) (p : Fin 256) (k : Fin 4096) :
    (iblk m hO c (0 : Fin 5) t : S256x4096.Idx → EReal) (ix2 p k) = (V m c main_arg0 : S81920x4096.Idx → EReal) (ix2 (row t p) k) := by
  refine congrArg (V m c main_arg0 : S81920x4096.Idx → EReal) (funext fun a => Fin.ext ?_)
  have e := Window.rect_emb_val ((cfgM m hO).win (0 : Fin 5)) t (ix2 p k) a
  rw [index0 m hO hn, Nat.min_eq_left u] at e
  refine Eq.trans e ?_
  fin_cases a
  · rfl
  · exact Nat.zero_add k.val

theorem read1 (c : Dev nD) (t : Fin (cfgM m hO).N) (k : Fin 4096) (f : Fin 256) :
    (iblk m hO c (1 : Fin 5) t : S1x4096x256.Idx → EReal) (ix3 0 k f) = (V m c main_arg3 : S32x4096x256.Idx → EReal) (ix3 ⟨(te m t).toNat, ht t⟩ k f) := by
  refine congrArg (V m c main_arg3 : S32x4096x256.Idx → EReal) (funext fun a => Fin.ext ?_)
  have e := Window.rect_emb_val ((cfgM m hO).win (1 : Fin 5)) t (ix3 0 k f) a
  rw [index1 m hO] at e
  refine Eq.trans e ?_
  fin_cases a
  · exact Nat.mul_one (te m t).toNat
  · exact Nat.zero_add k.val
  · exact Nat.zero_add f.val

theorem read2 (c : Dev nD) (t : Fin (cfgM m hO).N) (k : Fin 4096) (f : Fin 256) :
    (iblk m hO c (2 : Fin 5) t : S1x4096x256.Idx → EReal) (ix3 0 k f) = (V m c main_arg4 : S32x4096x256.Idx → EReal) (ix3 ⟨(te m t).toNat, ht t⟩ k f) := by
  refine congrArg (V m c main_arg4 : S32x4096x256.Idx → EReal) (funext fun a => Fin.ext ?_)
  have e := Window.rect_emb_val ((cfgM m hO).win (2 : Fin 5)) t (ix3 0 k f) a
  rw [index2 m hO] at e
  refine Eq.trans e ?_
  fin_cases a
  · exact Nat.mul_one (te m t).toNat
  · exact Nat.zero_add k.val
  · exact Nat.zero_add f.val

theorem read3 (c : Dev nD) (t : Fin (cfgM m hO).N) (f : Fin 256) (d : Fin 4096) :
    (iblk m hO c (3 : Fin 5) t : S1x256x4096.Idx → EReal) (ix3 0 f d) = (V m c main_arg5 : S32x256x4096.Idx → EReal) (ix3 ⟨(te m t).toNat, ht t⟩ f d) := by
  refine congrArg (V m c main_arg5 : S32x256x4096.Idx → EReal) (funext fun a => Fin.ext ?_)
  have e := Window.rect_emb_val ((cfgM m hO).win (3 : Fin 5)) t (ix3 0 f d) a
  rw [index3 m hO] at e
  refine Eq.trans e ?_
  fin_cases a
  · exact Nat.mul_one (te m t).toNat
  · exact Nat.zero_add f.val
  · exact Nat.zero_add d.val

/-- Row `r` at column `d` under the expert of the row's own tile. -/
def want (c : Dev nD) (r : Fin 81920) (d : Fin 4096) : EReal :=
  Cert.ExpertsRefIdeal.Value.one (V m c main_arg0) (V m c main_arg3) (V m c main_arg4) (V m c main_arg5)
    ⟨(te m ⟨r.val / 256, by omega⟩).toNat, ht _⟩ r d

include hn in
/-- What a tile in use stores is the formula at its rows. -/
theorem res_apply (c : Dev nD) (t : Fin (cfgM m hO).N) (u : t.val ≤ (nu m).toNat - 1) (p : Fin 256) (d : Fin 4096) :
    (res m hO c t : S256x4096.Idx → EReal) (ix2 p d) = want m ht c (row t p) d := by
  have h : (⟨(row t p).val / 256, by omega⟩ : Fin 320) = t := Fin.ext (by show (t.val * 256 + p.val) / 256 = t.val; omega)
  unfold want
  have q : (⟨(te m ⟨(row t p).val / 256, by omega⟩).toNat, ht _⟩ : Fin 32) = ⟨(te m t).toNat, ht t⟩ := Fin.ext (by rw [h])
  rw [q]
  refine (pay_apply _ _ _ _ p d).trans ?_
  have g1 : ∀ f, tprod (iblk m hO c (0 : Fin 5) t) (iblk m hO c (1 : Fin 5) t) p f
      = Cert.ExpertsRefIdeal.Value.prod (V m c main_arg0) (V m c main_arg3) (row t p) ⟨(te m t).toNat, ht t⟩ f := fun f =>
    Finset.sum_congr rfl fun k _ => Ideal.mul_congr (read0 m hO hn c t u p k) (read1 m hO ht c t k f)
  have g2 : ∀ f, tprod (iblk m hO c (0 : Fin 5) t) (iblk m hO c (2 : Fin 5) t) p f
      = Cert.ExpertsRefIdeal.Value.prod (V m c main_arg0) (V m c main_arg4) (row t p) ⟨(te m t).toNat, ht t⟩ f := fun f =>
    Finset.sum_congr rfl fun k _ => Ideal.mul_congr (read0 m hO hn c t u p k) (read2 m hO ht c t k f)
  refine Finset.sum_congr rfl fun f _ => Ideal.mul_congr ?_ (read3 m hO ht c t f d)
  rw [g1, g2]
  rfl

include hn in
/-- The element of the array that an element of a flushed block is. -/
theorem emb4 (t : Fin (cfgM m hO).N) (p : Fin 256) (d : Fin 4096) :
    (((cfgM m hO).win (4 : Fin 5)).blk t).view.emb (ix2 p d) = (ix2 (row (cut m hO t) p) d : S81920x4096.Idx) := by
  refine funext fun a => Fin.ext ?_
  have e := Window.rect_emb_val ((cfgM m hO).win (4 : Fin 5)) t (ix2 p d) a
  rw [index4 m hO hn] at e
  refine Eq.trans e ?_
  fin_cases a
  · rfl
  · exact Nat.zero_add d.val

/-- The whole array's contents under the formula. -/
def wanted (c : Dev nD) : S81920x4096.Idx → EReal := fun i => want m ht c (i 0) (i 1)

include hn in
theorem flushed4 (c : Dev nD) (t : Fin (cfgM m hO).N) :
    (dats m hO 0 c).flushed (4 : Fin 5) t = (((cfgM m hO).win (4 : Fin 5)).blk t).view.read (Elt Ideal) (wanted m ht c) := by
  funext y
  have e : (dats m hO 0 c).flushed (4 : Fin 5) t = (dats m hO 0 c).after (4 : Fin 5) t := rfl
  rw [e, after0_4]
  obtain ⟨p, d, rfl⟩ : ∃ (p : Fin 256) (d : Fin 4096), y = ix2 p d := ⟨y 0, y 1, eq_ix2 y⟩
  refine (res_apply m hO hn ht c (cut m hO t) (Nat.min_le_right _ _) p d).trans ?_
  exact (congrArg (wanted m ht c) (emb4 m hO hn t p d)).symm

include hn in
/-- Every row of a tile in use holds the formula after the run. -/
theorem result (c : Dev nD) (r : Fin 81920) (d : Fin 4096) (u : r.val / 256 < (nu m).toNat) :
    ((dats m hO 0 c).arrAt (4 : Fin 5) (cfgM m hO).N : S81920x4096.Idx → EReal) (ix2 r d) = want m ht c r d := by
  have hlt : r.val / 256 < 320 := by omega
  obtain ⟨t, -, hf, hx⟩ := Window.exists_flush_same_index ((cfgM m hO).win (4 : Fin 5)) rfl ⟨r.val / 256, hlt⟩
  refine (dats m hO 0 c).arrAt_apply_of_mem (4 : Fin 5) (wanted m ht c) (fun t _ => flushed4 m hO hn ht c t) _ t _ t.isLt hf ?_
  have hc : (cut m hO t).val = r.val / 256 := by
    rw [index4 m hO hn, index4 m hO hn] at hx
    have := congrFun hx 0
    show min t.val ((nu m).toNat - 1) = _
    refine Eq.trans this ?_
    show min (r.val / 256) ((nu m).toNat - 1) = _
    omega
  have k : (ix2 r d : S81920x4096.Idx) = (((cfgM m hO).win (4 : Fin 5)).blk t).view.emb (ix2 (⟨r.val % 256, by omega⟩ : Fin 256) d) := by
    rw [emb4 m hO hn]
    refine congrArg (fun a => ix2 a d) (Fin.ext ?_)
    show r.val = (cut m hO t).val * 256 + r.val % 256
    omega
  rw [k]
  exact View.emb_mem_set _ _

end Cert.ExpertsIdealProof

end
-- ==== Proof.ExpertsClaim.lean ====
/- The claims about the routed experts: both forms of the call run to their end under the precondition, and the rows in use equal the formula's. -/
module

public import proofs.«01_k».proof.Defs
public import proofs.«01_k».proof.Proof.ExpertsPre
public import proofs.«01_k».proof.Proof.ExpertsTables
public import proofs.«01_k».proof.Proof.ExpertsValue
public import proofs.«01_k».proof.Proof.Gen.On_in_use
public import Idealize.ShloMosaic.Lib.Claim

@[expose] public section

set_option maxRecDepth 16384

noncomputable section

namespace Cert.Proof

open Idealize.ShloMosaic Idealize.ShloMosaic.TcCoe Idealize.SL.Sem

theorem experts_tables (m : (ℓ : Loc Cert.Experts.nD Cert.Experts.τ Cert.Experts.sig) → Buf (Elt Bits) ℓ) (h : Cert.Pre_Experts m) :
    (∀ j, (Cert.ExpertsProof.te m j).toNat < 32) ∧ 1 ≤ (Cert.ExpertsProof.nu m).toInt :=
  have k := tables_of_pre _ _ _ _ _ _ (h 0)
  ⟨fun j => k.1 _, k.2 _⟩

theorem experts_ideal_tables (m : (ℓ : Loc Cert.ExpertsIdeal.nD Cert.ExpertsIdeal.τ Cert.ExpertsIdeal.sig) → Buf (Elt Ideal) ℓ) (h : Cert.Pre_ExpertsIdeal m) :
    (∀ j, (Cert.ExpertsIdealProof.te m j).toNat < 32) ∧ 1 ≤ (Cert.ExpertsIdealProof.nu m).toInt :=
  have k := tables_of_pre _ _ _ _ _ _ (h 0)
  ⟨fun j => k.1 _, k.2 _⟩

/-- The call runs to its end. -/
theorem quietExperts : Cert.quiescent_Experts := fun m g hp =>
  have k := experts_tables m hp
  (θ_run Cert.Experts.defs _ _).mono (fun r h => ⟨fun c => (h.1 c).2, h.2⟩)
    (Cert.ExpertsProof.run_result m g (Cert.ExpertsProof.ok_of_tables m k.1 k.2) k.2)

/-- The call over the extended reals runs to its end. -/
theorem quietExpertsIdeal : Cert.quiescent_ExpertsIdeal := fun m g hp =>
  have k := experts_ideal_tables m hp
  (θ_run Cert.ExpertsIdeal.defs _ _).mono (fun r h => ⟨fun c => (h.1 c).2, h.2⟩)
    (Cert.ExpertsIdealProof.run_result m g (Cert.ExpertsIdealProof.ok_of_tables m k.1 k.2) k.2)

/-- The formula runs to its end. -/
theorem quietExpertsRef : Cert.quiescent_ExpertsRefIdeal := fun m g _ =>
  (θ_run Cert.ExpertsRefIdeal.defs _ _).mono (fun r h => ⟨fun c => (h c).2, sem_eq_zero_of_no_sems (by decide) r.2⟩)
    (Cert.ExpertsRefIdeal.Value.run (F := Ideal) m g)

/-- The mask picks the rows of the tiles in use. -/
theorem in_use_of_mask {F : FTy → Type} [FloatOps F] (x : FVec F Cert.On_in_use.S81920x4096 .bf16) (te : IVec Cert.On_in_use.S320 32)
    (nu : IVec Cert.On_in_use.S1 32) (wg wu : FVec F Cert.On_in_use.S32x4096x256 .bf16) (wd : FVec F Cert.On_in_use.S32x256x4096 .bf16)
    (r : Fin 81920) (d : Fin 4096) (h : Cert.On_in_use.fn (F := F) x te nu wg wu wd (ix2 r d) = 1#1) :
    ((r.val / 256 : ℕ) : ℤ) < (nu (ix1 0)).toInt := by
  revert h
  pointwise [Cert.On_in_use.fn]
  intro h
  have k := slt_one h
  have e : (BitVec.ofNat 32 (r.val / 256)).toInt = ((r.val / 256 : ℕ) : ℤ) := ExpertsWords.ofNat_toInt (by omega)
  rw [e] at k
  exact k

/-- On the rows in use the experts' result equals the formula's, as extended reals. -/
theorem algebraic_experts : Cert.algebraic_ExpertsIdeal_ExpertsRefIdeal_on_in_use := by
  intro m g m' g' hpre hagree
  have k := experts_ideal_tables m hpre
  have hO := Cert.ExpertsIdealProof.ok_of_tables m k.1 k.2
  refine ⟨fun c => Cert.ExpertsRefIdeal.Value.formula (m ((c.tc : Thread _ _).loc Cert.ExpertsIdeal.main_arg0)) (m ((c.tc : Thread _ _).loc Cert.ExpertsIdeal.main_arg1))
    (m ((c.tc : Thread _ _).loc Cert.ExpertsIdeal.main_arg3)) (m ((c.tc : Thread _ _).loc Cert.ExpertsIdeal.main_arg4)) (m ((c.tc : Thread _ _).loc Cert.ExpertsIdeal.main_arg5)), ?_, ?_⟩
  · refine (θ_run Cert.ExpertsIdeal.defs _ _).mono (fun r h c => ⟨fun i hi => ?_, (h.1 c).2⟩) (Cert.ExpertsIdealProof.run_result m g hO k.2)
    obtain ⟨a, d, rfl⟩ : ∃ (a : Fin 81920) (d : Fin 4096), i = ix2 a d := ⟨i 0, i 1, eq_ix2 i⟩
    have u : a.val / 256 < (Cert.ExpertsIdealProof.nu m).toNat := by
      have w := in_use_of_mask _ _ _ _ _ _ a d hi
      have e : (m ((c.tc : Thread _ _).loc Cert.ExpertsIdeal.main_arg2) : Cert.On_in_use.S1.Idx → BitVec 32) (ix1 0) = Cert.ExpertsIdealProof.nu m := by
        obtain rfl : c = 0 := Subsingleton.elim _ _
        exact congrArg (Cert.ExpertsIdealProof.tbl m 1 : Cert.ExpertsIdeal.S1.Idx → BitVec 32) (Cert.ExpertsIdealProof.idx1_eq _ _)
      rw [e, ExpertsWords.toInt_of_pos k.2] at w
      exact Int.ofNat_lt.1 w
    refine ((congrFun (h.1 c).1 (ix2 a d)).trans (Cert.ExpertsIdealProof.result m hO k.2 k.1 c a d u)).trans ?_
    refine (Cert.ExpertsRefIdeal.Value.formula_apply _ _ _ _ _ a d _ ?_).symm
    obtain rfl : c = 0 := Subsingleton.elim _ _
    refine congrArg (fun j => ((Cert.ExpertsIdealProof.tbl m 0 : Cert.ExpertsIdeal.S320.Idx → BitVec 32) j).toNat) (funext fun b => Fin.ext ?_)
    fin_cases b
    rfl
  · refine (θ_run Cert.ExpertsRefIdeal.defs _ _).mono (fun r h c => ?_) (Cert.ExpertsRefIdeal.Value.run (F := Ideal) m' g')
    obtain ⟨a0, a1, a2, a3, a4, a5⟩ := hagree c
    have e := (h c).1
    rw [a0, a1, a3, a4, a5] at e
    exact ⟨fun i _ => congrFun e i, (h c).2⟩

end Cert.Proof

end
-- ==== Proof.NatQkvRef.lean ====
module

public import proofs.«01_k».proof.Proof.Gen.NatQkvRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe

namespace Cert.NatQkvRefIdeal.Value

open Cert.NatQkvRefIdeal Cert.NatQkvRefIdeal.Gen

/-- One entry of a head scaled to unit mean square: the head's entries `p`, the entry's gain `g`. -/
def unitEntry (p : Fin 128 → EReal) (g : EReal) (l : Fin 128) : EReal :=
  p l * Ideal.rsqrt (Ideal.div (∑ x, p x * p x) (Ideal.ofBits FTy.f32 1124073472#32) + Ideal.ofBits FTy.f32 897988541#32) * g

/-- The joint query, key and value product over the whole arrays. -/
def product (A : FVec Ideal S18432x4096 .bf16) (W : FVec Ideal S4096x12288 .f32) : FVec Ideal S18432x12288 .f32 :=
  Host.dotGeneral dot_S18432x4096_S4096x12288_S18432x12288_1_0_0_1_n_n none (extf .f32 A bitsLt_bf16_f32) W

/-- Rows whose 32 heads are each scaled to unit mean square and multiplied by a gain. -/
def unitRows (X : FVec Ideal S18432x4096 .f32) (G : FVec Ideal S128 .f32) : FVec Ideal S18432x4096 .f32 :=
  (shapeCast S18432x4096 (mulf (mulf (shapeCast S18432x32x128 X shapeCasts_S18432x4096_S18432x32x128) (broadcastInDim S18432x32x128 ![0, 1, 2] bcast_S18432x32x1_S18432x32x128_0_1_2 (Host.rsqrt (addf (Host.divf (broadcastInDim S18432x32x1 ![0, 1] bcast_S18432x32_S18432x32x1_0_1 (Host.reduceAdd (mulf (shapeCast S18432x32x128 X shapeCasts_S18432x4096_S18432x32x128) (shapeCast S18432x32x128 X shapeCasts_S18432x4096_S18432x32x128)) (constant S_ .f32 0x00000000#32) reducesTo_S18432x32x128_S18432x32_d2 h_S_)) (broadcastInDim S18432x32x1 ![] bcast_S_S18432x32x1 (constant S_ .f32 0x43000000#32))) (broadcastInDim S18432x32x1 ![] bcast_S_S18432x32x1 (constant S_ .f32 0x358637BD#32)))))) (broadcastInDim S18432x32x128 ![0, 1, 2] bcast_S1x1x128_S18432x32x128_0_1_2 (broadcastInDim S1x1x128 ![2] bcast_S128_S1x1x128_2 G))) shapeCasts_S18432x32x128_S18432x4096)

/-- The three parts of the product side by side: normalised queries, normalised keys, plain values. -/
def assembled (P : FVec Ideal S18432x12288 .f32) (G K : FVec Ideal S128 .f32) : FVec Ideal S18432x12288 .bf16 :=
  truncf .bf16 (concatenate S18432x12288 1 [⟨S18432x4096, unitRows (extractStridedSlice S18432x4096 ![0, 0] P slices_S18432x12288_S18432x4096_0_0) G⟩, ⟨S18432x4096, unitRows (extractStridedSlice S18432x4096 ![0, 4096] P slices_S18432x12288_S18432x4096_0_4096) K⟩, ⟨S18432x4096, (extractStridedSlice S18432x4096 ![0, 8192] P slices_S18432x12288_S18432x4096_0_8192)⟩] concatenates_S18432x4096_S18432x4096_S18432x4096_S18432x12288_d1 : FVec Ideal S18432x12288 .f32) bitsLt_bf16_f32

/-- An entry of the product. -/
theorem product_at (A : FVec Ideal S18432x4096 .bf16) (W : FVec Ideal S4096x12288 .f32) (i : Fin 18432) (j : Fin 12288) :
    product A W (ix2 i j) = ∑ k : Fin 4096, A (ix2 i k) * W (ix2 k j) := by
  pointwise [product]

/-- An entry of the normalised rows, through its head and its place in the head. -/
theorem unitRows_at (X : FVec Ideal S18432x4096 .f32) (G : FVec Ideal S128 .f32) (i : Fin 18432) (h : Fin 32) (l : Fin 128) :
    unitRows X G (ix2 i ⟨h * 128 + l, by omega⟩) = unitEntry (fun x => X (ix2 i ⟨h * 128 + x, by omega⟩)) (G (ix1 l)) l := by
  pointwise [unitRows, unitEntry]

/-- A query entry of the result. -/
theorem assembled_q (P : FVec Ideal S18432x12288 .f32) (G K : FVec Ideal S128 .f32) (i : Fin 18432) (h : Fin 32) (l : Fin 128) :
    assembled P G K (ix2 i ⟨h * 128 + l, by omega⟩) = unitEntry (fun x => P (ix2 i ⟨h * 128 + x, by omega⟩)) (G (ix1 l)) l := by
  have b : h.val * 128 + l.val < 4096 := by omega
  pointwise [assembled]
  rw [dif_pos b, unitRows_at]
  pointwise

/-- A key entry of the result. -/
theorem assembled_k (P : FVec Ideal S18432x12288 .f32) (G K : FVec Ideal S128 .f32) (i : Fin 18432) (h : Fin 32) (l : Fin 128) :
    assembled P G K (ix2 i ⟨4096 + (h * 128 + l), by omega⟩) = unitEntry (fun x => P (ix2 i ⟨4096 + (h * 128 + x), by omega⟩)) (K (ix1 l)) l := by
  have b : h.val * 128 + l.val < 4096 := by omega
  pointwise [assembled]
  rw [dif_pos b, unitRows_at]
  pointwise

/-- A value entry of the result. -/
theorem assembled_v (P : FVec Ideal S18432x12288 .f32) (G K : FVec Ideal S128 .f32) (i : Fin 18432) (j : Fin 4096) :
    assembled P G K (ix2 i ⟨8192 + j, by omega⟩) = P (ix2 i ⟨8192 + j, by omega⟩) := by
  pointwise [assembled]
  rw [dif_neg (by omega), dif_neg (by omega)]
  exact congrArg (fun k => P (ix2 i k)) (Fin.ext (by simp only []; omega))

end Cert.NatQkvRefIdeal.Value
-- ==== Proof.NatQkv.lean ====
module

public import proofs.«01_k».proof.Defs
public import proofs.«01_k».proof.Proof.Gen.NatQkvIdeal.Value
public import proofs.«01_k».proof.Proof.NatQkvRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NatQkvIdeal.Value

open Cert.NatQkvIdeal Cert.NatQkvIdeal.Gen

open Cert.NatQkvRefIdeal.Value (unitEntry product assembled)

variable (m : (ℓ : Loc nD τ sig) → Buf (Elt Ideal) ℓ)

/-- The row of gains the host lays beside the columns: the query gain 32 times, the key gain 32 times, ones. -/
abbrev gainRow (G K : FVec Ideal S128 .f32) : FVec Ideal S1x12288 .f32 :=
  broadcastInDim S1x12288 ![1] bcast_S12288_S1x12288_1 (concatenate S12288 0 [⟨S4096, shapeCast S4096 (broadcastInDim S32x128 ![0, 1] bcast_S1x128_S32x128_0_1 (shapeCast S1x128 G shapeCasts_S128_S1x128)) shapeCasts_S32x128_S4096⟩, ⟨S4096, shapeCast S4096 (broadcastInDim S32x128 ![0, 1] bcast_S1x128_S32x128_0_1 (shapeCast S1x128 K shapeCasts_S128_S1x128)) shapeCasts_S32x128_S4096⟩, ⟨S4096, broadcastInDim S4096 ![] bcast_S_S4096 (constant S_ .f32 0x3F800000#32)⟩] concatenates_S4096_S4096_S4096_S12288_d0)

/-- The row of gains as the kernel finds it. -/
theorem gain_eq (c : Dev nD) : V m c main_v8 = gainRow (m ((c : Thread nD τ).loc main_arg2)) (m ((c : Thread nD τ).loc main_arg3)) := rfl

/-- A gain repeated for each head. -/
theorem repeated_at (G : FVec Ideal S128 .f32) (h : Fin 32) (l : Fin 128) :
    (shapeCast S4096 (broadcastInDim S32x128 ![0, 1] bcast_S1x128_S32x128_0_1 (shapeCast S1x128 G shapeCasts_S128_S1x128)) shapeCasts_S32x128_S4096 : FVec Ideal S4096 .f32) (ix1 ⟨h * 128 + l, by omega⟩) = G (ix1 l) := by
  pointwise

/-- The first third of a row of three parts. -/
theorem first_at (a b d : FVec Ideal S4096 .f32) (j : Fin 4096) :
    (broadcastInDim S1x12288 ![1] bcast_S12288_S1x12288_1 (concatenate S12288 0 [⟨S4096, a⟩, ⟨S4096, b⟩, ⟨S4096, d⟩] concatenates_S4096_S4096_S4096_S12288_d0) : FVec Ideal S1x12288 .f32) (ix2 0 ⟨j, by omega⟩) = a (ix1 j) := by
  pointwise

/-- A query column's gain. -/
theorem gain_q (G K : FVec Ideal S128 .f32) (h : Fin 32) (l : Fin 128) : gainRow G K (ix2 0 ⟨h * 128 + l, by omega⟩) = G (ix1 l) :=
  (first_at _ _ _ ⟨h * 128 + l, by omega⟩).trans (repeated_at G h l)

/-- A key column's gain. -/
theorem gain_k (G K : FVec Ideal S128 .f32) (h : Fin 32) (l : Fin 128) : gainRow G K (ix2 0 ⟨4096 + (h * 128 + l), by omega⟩) = K (ix1 l) := by
  have b : h.val * 128 + l.val < 4096 := by omega
  pointwise [gainRow]
  rw [dif_pos b]

/-- Equal heads and equal gains give equal entries. -/
theorem unitEntry_congr {p p' : Fin 128 → EReal} {g g' : EReal} (l : Fin 128) (hp : ∀ x, p x = p' x) (hg : g = g') :
    unitEntry p g l = unitEntry p' g' l := by
  rw [funext hp, hg]

/-- What a point of the query and key columns stores, from its input blocks. -/
abbrev stored (x0 : Vec Ideal S1024x4096 .bf16) (x1 : Vec Ideal S4096x512 .bf16) (x2 : Vec Ideal S1x512 .f32) : FVec Ideal S1024x512 .bf16 :=
  k0_pay2 x0 x1 (k0_pay4 (k0_pay1 x0 x1) (View.ld x2 (Rect.unit ![0, 0] ![1, 128] inb_S1x512_S1x128_0_0)))
    (k0_pay5 (k0_pay1 x0 x1) (View.ld x2 (Rect.unit ![0, 128] ![1, 128] inb_S1x512_S1x128_0_128)))
    (k0_pay6 (k0_pay1 x0 x1)) (k0_pay7 (View.ld x2 (Rect.unit ![0, 256] ![1, 128] inb_S1x512_S1x128_0_256)))
    (View.ld x2 (Rect.unit ![0, 384] ![1, 128] inb_S1x512_S1x128_0_384))

/-- An entry of it, through its head of the tile and its place in the head. -/
theorem stored_at (x0 : Vec Ideal S1024x4096 .bf16) (x1 : Vec Ideal S4096x512 .bf16) (x2 : Vec Ideal S1x512 .f32) (r : Fin 1024) (h : Fin 4) (l : Fin 128) :
    stored x0 x1 x2 (ix2 r ⟨h * 128 + l, by omega⟩)
      = unitEntry (fun x => k0_pay1 x0 x1 (ix2 r ⟨h * 128 + x, by omega⟩)) (x2 (ix2 0 ⟨h * 128 + l, by omega⟩)) l := by
  pointwise [k0_pay2, k0_pay4, k0_pay5, k0_pay6, k0_pay7, unitEntry]
  fin_vals h with hk
  all_goals
    split_ifs
    all_goals first | (exfalso; omega) | skip
  all_goals
    have e (x y : Fin 512) (hxy : x.val = y.val) : k0_pay1 x0 x1 (ix2 r x) = k0_pay1 x0 x1 (ix2 r y) := by rw [Fin.ext hxy]
    have e' (x y : Fin 512) (hxy : x.val = y.val) : x2 (ix2 0 x) = x2 (ix2 0 y) := by rw [Fin.ext hxy]
    refine congrArg₂ (fun a b : EReal => a * b) (congrArg₂ (fun a b : EReal => a * b) (e _ _ (by dsimp only <;> omega)) (congrArg (fun a : EReal => Ideal.rsqrt (Ideal.div a _ + _)) (Finset.sum_congr rfl fun x _ => ?_))) (e' _ _ (by dsimp only <;> omega))
    exact congrArg₂ (fun a b : EReal => a * b) (e _ _ (by dsimp only <;> omega)) (e _ _ (by dsimp only <;> omega))

/-- Each window's block at a grid point. -/
theorem blockIdx : ∀ t : Fin cfg0.N, win0_0.index t = ![t.val / 24, 0] ∧ win0_1.index t = ![0, t.val % 24]
    ∧ win0_2.index t = ![0, t.val % 24] ∧ win0_5.index t = ![t.val / 24, t.val % 24] :=
  (by decide +kernel : ∀ t : Fin grid0.N, _)

/-- The tile's product is the whole product at the tile's place. -/
theorem pay1_at (c : Dev nD) (t : Fin cfg0.N) (r : Fin 1024) (q : Fin 512) (i : Fin 18432) (j : Fin 12288) (hi : i.val = t.val / 24 * 1024 + r) (hj : j.val = t.val % 24 * 512 + q) :
    k0_pay1 (iblk m c 0 t) (iblk m c 1 t) (ix2 r q) = product (m ((c : Thread nD τ).loc main_arg0)) (m ((c : Thread nD τ).loc main_arg1)) (ix2 i j) := by
  pointwise [k0_pay1, product]
  blk_point [iblk, V, blockIdx t]

/-- The tile's gains are the gain row's at the tile's columns. -/
theorem gain_at (c : Dev nD) (t : Fin cfg0.N) (q : Fin 512) (j : Fin 12288) (hj : j.val = t.val % 24 * 512 + q) :
    (show FVec Ideal S1x512 .f32 from iblk m c 2 t) (ix2 0 q) = gainRow (m ((c : Thread nD τ).loc main_arg2)) (m ((c : Thread nD τ).loc main_arg3)) (ix2 0 j) := by
  rw [← gain_eq]
  show V m c main_v8 (((cfg0.win 2).blk t).view.emb (ix2 0 q)) = _
  refine congrArg (V m c main_v8) ?_
  blk_ext [blockIdx t]

/-- The formula the result array holds, over the arguments. -/
abbrev formula (c : Dev nD) : FVec Ideal S18432x12288 .bf16 :=
  assembled (product (m ((c : Thread nD τ).loc main_arg0)) (m ((c : Thread nD τ).loc main_arg1))) (m ((c : Thread nD τ).loc main_arg2)) (m ((c : Thread nD τ).loc main_arg3))

/-- A block's place in the result array. -/
theorem place (t : Fin cfg0.N) (r : Fin 1024) (q : Fin 512) (i : Fin 18432) (j : Fin 12288) (hi : i.val = t.val / 24 * 1024 + r) (hj : j.val = t.val % 24 * 512 + q) :
    ((cfg0.win 5).blk t).view.emb (ix2 r q) = ix2 i j := by
  blk_ext [blockIdx t]

/-- What a point of the query and key columns stores is its tile of the formula. -/
theorem tileA (c : Dev nD) (t : Fin cfg0.N) (h0 : t.val % 24 ≤ 15) (y : S1024x512.Idx) :
    stored (iblk m c 0 t) (iblk m c 1 t) (iblk m c 2 t) y = formula m c (((cfg0.win 5).blk t).view.emb y) := by
  have ht : t.val < 432 := lt_of_lt_of_eq t.isLt N_0
  obtain ⟨r, q, rfl⟩ : ∃ (r : Fin 1024) (q : Fin 512), y = ix2 r q := ⟨y 0, y 1, eq_ix2 y⟩
  obtain ⟨h, l, rfl⟩ : ∃ (h : Fin 4) (l : Fin 128), q = ⟨h * 128 + l, by omega⟩ :=
    ⟨⟨q / 128, by omega⟩, ⟨q % 128, by omega⟩, Fin.ext (by dsimp only; omega)⟩
  rw [stored_at]
  by_cases hq : t.val % 24 < 8
  · rw [place t r _ ⟨t.val / 24 * 1024 + r, by omega⟩ ⟨(t.val % 24 * 4 + h.val) * 128 + l.val, by omega⟩ rfl (by dsimp only; omega)]
    refine Eq.trans ?_ (Cert.NatQkvRefIdeal.Value.assembled_q _ _ _ _ ⟨t.val % 24 * 4 + h.val, by omega⟩ l).symm
    refine unitEntry_congr l (fun x => pay1_at m c t r _ _ _ rfl (by dsimp only; omega)) ?_
    exact (gain_at m c t _ _ (by dsimp only; omega)).trans (gain_q _ _ ⟨t.val % 24 * 4 + h.val, by omega⟩ l)
  · rw [place t r _ ⟨t.val / 24 * 1024 + r, by omega⟩ ⟨4096 + (((t.val % 24 - 8) * 4 + h.val) * 128 + l.val), by omega⟩ rfl (by dsimp only; omega)]
    refine Eq.trans ?_ (Cert.NatQkvRefIdeal.Value.assembled_k _ _ _ _ ⟨(t.val % 24 - 8) * 4 + h.val, by omega⟩ l).symm
    refine unitEntry_congr l (fun x => pay1_at m c t r _ _ _ rfl (by dsimp only; omega)) ?_
    exact (gain_at m c t _ _ (by dsimp only; omega)).trans (gain_k _ _ ⟨(t.val % 24 - 8) * 4 + h.val, by omega⟩ l)

/-- What a point of the value columns stores is its tile of the formula. -/
theorem tileB (c : Dev nD) (t : Fin cfg0.N) (h1 : 16 ≤ t.val % 24) (y : S1024x512.Idx) :
    k0_pay3 (iblk m c 0 t) (iblk m c 1 t) y = formula m c (((cfg0.win 5).blk t).view.emb y) := by
  have ht : t.val < 432 := lt_of_lt_of_eq t.isLt N_0
  obtain ⟨r, q, rfl⟩ : ∃ (r : Fin 1024) (q : Fin 512), y = ix2 r q := ⟨y 0, y 1, eq_ix2 y⟩
  rw [place t r q ⟨t.val / 24 * 1024 + r, by omega⟩ ⟨8192 + ((t.val % 24 - 16) * 512 + q.val), by omega⟩ rfl (by dsimp only; omega)]
  refine Eq.trans ?_ (Cert.NatQkvRefIdeal.Value.assembled_v _ _ _ _ ⟨(t.val % 24 - 16) * 512 + q.val, by omega⟩).symm
  exact pay1_at m c t r q _ _ rfl (by dsimp only; omega)

/-- The result array after the run. -/
theorem result (c : Dev nD) : (dats m 0 c).arrAt 5 (cfgs 0).N = formula m c := by
  refine (dats m 0 c).arrAt_eq_of_covers 5 _ (by decide +kernel) fun t _ y => ?_
  blk_simp
  rw [after0_5]
  by_cases h : t.val % 24 ≤ 15
  · rw [outsAt0_A m c t h (by omega)]
    frame_out
    exact tileA m c t h y
  · rw [outsAt0_B m c t h (by omega)]
    frame_out
    exact tileB m c t (by omega) y

end Cert.NatQkvIdeal.Value

/-- The query, key and value rows equal the formula's, as extended reals. -/
theorem Cert.Proof.algebraic_natqkv : Cert.algebraic_NatQkvIdeal_NatQkvRefIdeal := by
  pair_intro
  · run_from Cert.NatQkvIdeal.Gen.run_main m g
  · refine (θ_run _ _ _).mono (fun r h c => ?_) (Cert.NatQkvRefIdeal.Value.run m' g')
    refine ⟨(h c).1.trans ?_, (h c).2⟩
    rw [(hagree c).1, (hagree c).2.1, (hagree c).2.2.1, (hagree c).2.2.2.1]
    exact (Cert.NatQkvIdeal.Value.result m c).symm

end
-- ==== Proof.SwaQkvRef.lean ====
module

public import proofs.«01_k».proof.Proof.Gen.SwaQkvRefIdeal.Run
public import proofs.«01_k».proof.Proof.NatQkvRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe

namespace Cert.SwaQkvRefIdeal.Value

open Cert.SwaQkvRefIdeal Cert.SwaQkvRefIdeal.Gen
open Cert.NatQkvRefIdeal.Value (unitEntry)

/-- One entry of a turned head: quarter `a`, place `d` in it. The first two quarters turn by the row's angle, the last two by the column's. -/
def turnEntry (y : Fin 128 → EReal) (rc rs cc cs : Fin 32 → EReal) (a : Fin 4) (d : Fin 32) : EReal :=
  if a.val = 0 then y ⟨d, by omega⟩ * rc d - y ⟨32 + d, by omega⟩ * rs d
  else if a.val = 1 then y ⟨32 + d, by omega⟩ * rc d + y ⟨d, by omega⟩ * rs d
  else if a.val = 2 then y ⟨64 + d, by omega⟩ * cc d - y ⟨96 + d, by omega⟩ * cs d
  else y ⟨96 + d, by omega⟩ * cc d + y ⟨64 + d, by omega⟩ * cs d

/-- The joint query, key and value product over the whole arrays. -/
def product (A : FVec Ideal S18432x4096 .bf16) (W : FVec Ideal S4096x6144 .f32) : FVec Ideal S18432x6144 .f32 :=
  (Host.dotGeneral dot_S18432x4096_S4096x6144_S18432x6144_1_0_0_1_n_n none (extf .f32 A bitsLt_bf16_f32) W)

/-- An entry of the product. -/
theorem product_at (A : FVec Ideal S18432x4096 .bf16) (W : FVec Ideal S4096x6144 .f32) (i : Fin 18432) (j : Fin 6144) :
    product A W (ix2 i j) = ∑ k : Fin 4096, A (ix2 i k) * W (ix2 k j) := by
  pointwise [product]

/-- The query heads, each scaled to unit mean square and multiplied by a gain. -/
def heads32 (X : FVec Ideal S18432x4096 .f32) (G : FVec Ideal S128 .f32) : FVec Ideal S18432x32x128 .f32 :=
  (mulf (mulf (shapeCast S18432x32x128 X shapeCasts_S18432x4096_S18432x32x128) (broadcastInDim S18432x32x128 ![0, 1, 2] bcast_S18432x32x1_S18432x32x128_0_1_2 (Host.rsqrt (addf (Host.divf (broadcastInDim S18432x32x1 ![0, 1] bcast_S18432x32_S18432x32x1_0_1 (Host.reduceAdd (mulf (shapeCast S18432x32x128 X shapeCasts_S18432x4096_S18432x32x128) (shapeCast S18432x32x128 X shapeCasts_S18432x4096_S18432x32x128)) (constant S_ .f32 0x00000000#32) reducesTo_S18432x32x128_S18432x32_d2 h_S_)) (broadcastInDim S18432x32x1 ![] bcast_S_S18432x32x1 (constant S_ .f32 0x43000000#32))) (broadcastInDim S18432x32x1 ![] bcast_S_S18432x32x1 (constant S_ .f32 0x358637BD#32)))))) (broadcastInDim S18432x32x128 ![0, 1, 2] bcast_S1x1x128_S18432x32x128_0_1_2 (broadcastInDim S1x1x128 ![2] bcast_S128_S1x1x128_2 G)))

/-- The query heads turned by their row's angles. -/
def turned32 (Y : FVec Ideal S18432x32x128 .f32) (rc rs cc cs : FVec Ideal S18432x32 .f32) : FVec Ideal S18432x32x128 .f32 :=
  (concatenate S18432x32x128 2 [⟨S18432x32x64, (concatenate S18432x32x64 2 [⟨S18432x32x32, (subf (mulf (extractStridedSlice S18432x32x32 ![0, 0, 0] (extractStridedSlice S18432x32x64 ![0, 0, 0] Y slices_S18432x32x128_S18432x32x64_0_0_0) slices_S18432x32x64_S18432x32x32_0_0_0) (broadcastInDim S18432x32x32 ![0, 1, 2] bcast_S18432x1x32_S18432x32x32_0_1_2 (broadcastInDim S18432x1x32 ![0, 2] bcast_S18432x32_S18432x1x32_0_2 rc))) (mulf (extractStridedSlice S18432x32x32 ![0, 0, 32] (extractStridedSlice S18432x32x64 ![0, 0, 0] Y slices_S18432x32x128_S18432x32x64_0_0_0) slices_S18432x32x64_S18432x32x32_0_0_32) (broadcastInDim S18432x32x32 ![0, 1, 2] bcast_S18432x1x32_S18432x32x32_0_1_2 (broadcastInDim S18432x1x32 ![0, 2] bcast_S18432x32_S18432x1x32_0_2 rs))))⟩, ⟨S18432x32x32, (addf (mulf (extractStridedSlice S18432x32x32 ![0, 0, 32] (extractStridedSlice S18432x32x64 ![0, 0, 0] Y slices_S18432x32x128_S18432x32x64_0_0_0) slices_S18432x32x64_S18432x32x32_0_0_32) (broadcastInDim S18432x32x32 ![0, 1, 2] bcast_S18432x1x32_S18432x32x32_0_1_2 (broadcastInDim S18432x1x32 ![0, 2] bcast_S18432x32_S18432x1x32_0_2 rc))) (mulf (extractStridedSlice S18432x32x32 ![0, 0, 0] (extractStridedSlice S18432x32x64 ![0, 0, 0] Y slices_S18432x32x128_S18432x32x64_0_0_0) slices_S18432x32x64_S18432x32x32_0_0_0) (broadcastInDim S18432x32x32 ![0, 1, 2] bcast_S18432x1x32_S18432x32x32_0_1_2 (broadcastInDim S18432x1x32 ![0, 2] bcast_S18432x32_S18432x1x32_0_2 rs))))⟩] concatenates_S18432x32x32_S18432x32x32_S18432x32x64_d2)⟩, ⟨S18432x32x64, (concatenate S18432x32x64 2 [⟨S18432x32x32, (subf (mulf (extractStridedSlice S18432x32x32 ![0, 0, 0] (extractStridedSlice S18432x32x64 ![0, 0, 64] Y slices_S18432x32x128_S18432x32x64_0_0_64) slices_S18432x32x64_S18432x32x32_0_0_0) (broadcastInDim S18432x32x32 ![0, 1, 2] bcast_S18432x1x32_S18432x32x32_0_1_2 (broadcastInDim S18432x1x32 ![0, 2] bcast_S18432x32_S18432x1x32_0_2 cc))) (mulf (extractStridedSlice S18432x32x32 ![0, 0, 32] (extractStridedSlice S18432x32x64 ![0, 0, 64] Y slices_S18432x32x128_S18432x32x64_0_0_64) slices_S18432x32x64_S18432x32x32_0_0_32) (broadcastInDim S18432x32x32 ![0, 1, 2] bcast_S18432x1x32_S18432x32x32_0_1_2 (broadcastInDim S18432x1x32 ![0, 2] bcast_S18432x32_S18432x1x32_0_2 cs))))⟩, ⟨S18432x32x32, (addf (mulf (extractStridedSlice S18432x32x32 ![0, 0, 32] (extractStridedSlice S18432x32x64 ![0, 0, 64] Y slices_S18432x32x128_S18432x32x64_0_0_64) slices_S18432x32x64_S18432x32x32_0_0_32) (broadcastInDim S18432x32x32 ![0, 1, 2] bcast_S18432x1x32_S18432x32x32_0_1_2 (broadcastInDim S18432x1x32 ![0, 2] bcast_S18432x32_S18432x1x32_0_2 cc))) (mulf (extractStridedSlice S18432x32x32 ![0, 0, 0] (extractStridedSlice S18432x32x64 ![0, 0, 64] Y slices_S18432x32x128_S18432x32x64_0_0_64) slices_S18432x32x64_S18432x32x32_0_0_0) (broadcastInDim S18432x32x32 ![0, 1, 2] bcast_S18432x1x32_S18432x32x32_0_1_2 (broadcastInDim S18432x1x32 ![0, 2] bcast_S18432x32_S18432x1x32_0_2 cs))))⟩] concatenates_S18432x32x32_S18432x32x32_S18432x32x64_d2)⟩] concatenates_S18432x32x64_S18432x32x64_S18432x32x128_d2)

/-- An entry of the query heads. -/
theorem heads32_at (X : FVec Ideal S18432x4096 .f32) (G : FVec Ideal S128 .f32) (i : Fin 18432) (h : Fin 32) (l : Fin 128) :
    heads32 X G (ix3 i h l) = unitEntry (fun x => X (ix2 i ⟨h * 128 + x, by omega⟩)) (G (ix1 l)) l := by
  pointwise [heads32, unitEntry]

/-- An entry of the turned query heads. -/
theorem turned32_at (Y : FVec Ideal S18432x32x128 .f32) (rc rs cc cs : FVec Ideal S18432x32 .f32) (i : Fin 18432) (h : Fin 32) (a : Fin 4) (d : Fin 32) :
    turned32 Y rc rs cc cs (ix3 i h ⟨a * 32 + d, by omega⟩)
      = turnEntry (fun x => Y (ix3 i h x)) (fun x => rc (ix2 i x)) (fun x => rs (ix2 i x)) (fun x => cc (ix2 i x)) (fun x => cs (ix2 i x)) a d := by
  pointwise [turned32, turnEntry]
  have eY : ∀ (p q : ℕ) (hp : p < 128) (hq : q < 128), p = q → Y (ix3 i h ⟨p, hp⟩) = Y (ix3 i h ⟨q, hq⟩) := by
    intro p q hp hq e; subst e; rfl
  have eT : ∀ (T : FVec Ideal S18432x32 .f32) (p q : ℕ) (hp : p < 32) (hq : q < 32), p = q → T (ix2 i ⟨p, hp⟩) = T (ix2 i ⟨q, hq⟩) := by
    intro T p q hp hq e; subst e; rfl
  fin_vals a with hk
  all_goals simp only [hk]
  all_goals split_ifs
  all_goals first
    | (exfalso; omega)
    | exact congrArg₂ (· - ·) (congrArg₂ (· * ·) (eY _ _ _ _ (by omega)) (eT _ _ _ _ _ (by omega))) (congrArg₂ (· * ·) (eY _ _ _ _ (by omega)) (eT _ _ _ _ _ (by omega)))
    | exact congrArg₂ (· + ·) (congrArg₂ (· * ·) (eY _ _ _ _ (by omega)) (eT _ _ _ _ _ (by omega))) (congrArg₂ (· * ·) (eY _ _ _ _ (by omega)) (eT _ _ _ _ _ (by omega)))

/-- The key heads, each scaled to unit mean square and multiplied by a gain. -/
def heads8 (X : FVec Ideal S18432x1024 .f32) (G : FVec Ideal S128 .f32) : FVec Ideal S18432x8x128 .f32 :=
  (mulf (mulf (shapeCast S18432x8x128 X shapeCasts_S18432x1024_S18432x8x128) (broadcastInDim S18432x8x128 ![0, 1, 2] bcast_S18432x8x1_S18432x8x128_0_1_2 (Host.rsqrt (addf (Host.divf (broadcastInDim S18432x8x1 ![0, 1] bcast_S18432x8_S18432x8x1_0_1 (Host.reduceAdd (mulf (shapeCast S18432x8x128 X shapeCasts_S18432x1024_S18432x8x128) (shapeCast S18432x8x128 X shapeCasts_S18432x1024_S18432x8x128)) (constant S_ .f32 0x00000000#32) reducesTo_S18432x8x128_S18432x8_d2 h_S_)) (broadcastInDim S18432x8x1 ![] bcast_S_S18432x8x1 (constant S_ .f32 0x43000000#32))) (broadcastInDim S18432x8x1 ![] bcast_S_S18432x8x1 (constant S_ .f32 0x358637BD#32)))))) (broadcastInDim S18432x8x128 ![0, 1, 2] bcast_S1x1x128_S18432x8x128_0_1_2 (broadcastInDim S1x1x128 ![2] bcast_S128_S1x1x128_2 G)))

/-- The key heads turned by their row's angles. -/
def turned8 (Y : FVec Ideal S18432x8x128 .f32) (rc rs cc cs : FVec Ideal S18432x32 .f32) : FVec Ideal S18432x8x128 .f32 :=
  (concatenate S18432x8x128 2 [⟨S18432x8x64, (concatenate S18432x8x64 2 [⟨S18432x8x32, (subf (mulf (extractStridedSlice S18432x8x32 ![0, 0, 0] (extractStridedSlice S18432x8x64 ![0, 0, 0] Y slices_S18432x8x128_S18432x8x64_0_0_0) slices_S18432x8x64_S18432x8x32_0_0_0) (broadcastInDim S18432x8x32 ![0, 1, 2] bcast_S18432x1x32_S18432x8x32_0_1_2 (broadcastInDim S18432x1x32 ![0, 2] bcast_S18432x32_S18432x1x32_0_2 rc))) (mulf (extractStridedSlice S18432x8x32 ![0, 0, 32] (extractStridedSlice S18432x8x64 ![0, 0, 0] Y slices_S18432x8x128_S18432x8x64_0_0_0) slices_S18432x8x64_S18432x8x32_0_0_32) (broadcastInDim S18432x8x32 ![0, 1, 2] bcast_S18432x1x32_S18432x8x32_0_1_2 (broadcastInDim S18432x1x32 ![0, 2] bcast_S18432x32_S18432x1x32_0_2 rs))))⟩, ⟨S18432x8x32, (addf (mulf (extractStridedSlice S18432x8x32 ![0, 0, 32] (extractStridedSlice S18432x8x64 ![0, 0, 0] Y slices_S18432x8x128_S18432x8x64_0_0_0) slices_S18432x8x64_S18432x8x32_0_0_32) (broadcastInDim S18432x8x32 ![0, 1, 2] bcast_S18432x1x32_S18432x8x32_0_1_2 (broadcastInDim S18432x1x32 ![0, 2] bcast_S18432x32_S18432x1x32_0_2 rc))) (mulf (extractStridedSlice S18432x8x32 ![0, 0, 0] (extractStridedSlice S18432x8x64 ![0, 0, 0] Y slices_S18432x8x128_S18432x8x64_0_0_0) slices_S18432x8x64_S18432x8x32_0_0_0) (broadcastInDim S18432x8x32 ![0, 1, 2] bcast_S18432x1x32_S18432x8x32_0_1_2 (broadcastInDim S18432x1x32 ![0, 2] bcast_S18432x32_S18432x1x32_0_2 rs))))⟩] concatenates_S18432x8x32_S18432x8x32_S18432x8x64_d2)⟩, ⟨S18432x8x64, (concatenate S18432x8x64 2 [⟨S18432x8x32, (subf (mulf (extractStridedSlice S18432x8x32 ![0, 0, 0] (extractStridedSlice S18432x8x64 ![0, 0, 64] Y slices_S18432x8x128_S18432x8x64_0_0_64) slices_S18432x8x64_S18432x8x32_0_0_0) (broadcastInDim S18432x8x32 ![0, 1, 2] bcast_S18432x1x32_S18432x8x32_0_1_2 (broadcastInDim S18432x1x32 ![0, 2] bcast_S18432x32_S18432x1x32_0_2 cc))) (mulf (extractStridedSlice S18432x8x32 ![0, 0, 32] (extractStridedSlice S18432x8x64 ![0, 0, 64] Y slices_S18432x8x128_S18432x8x64_0_0_64) slices_S18432x8x64_S18432x8x32_0_0_32) (broadcastInDim S18432x8x32 ![0, 1, 2] bcast_S18432x1x32_S18432x8x32_0_1_2 (broadcastInDim S18432x1x32 ![0, 2] bcast_S18432x32_S18432x1x32_0_2 cs))))⟩, ⟨S18432x8x32, (addf (mulf (extractStridedSlice S18432x8x32 ![0, 0, 32] (extractStridedSlice S18432x8x64 ![0, 0, 64] Y slices_S18432x8x128_S18432x8x64_0_0_64) slices_S18432x8x64_S18432x8x32_0_0_32) (broadcastInDim S18432x8x32 ![0, 1, 2] bcast_S18432x1x32_S18432x8x32_0_1_2 (broadcastInDim S18432x1x32 ![0, 2] bcast_S18432x32_S18432x1x32_0_2 cc))) (mulf (extractStridedSlice S18432x8x32 ![0, 0, 0] (extractStridedSlice S18432x8x64 ![0, 0, 64] Y slices_S18432x8x128_S18432x8x64_0_0_64) slices_S18432x8x64_S18432x8x32_0_0_0) (broadcastInDim S18432x8x32 ![0, 1, 2] bcast_S18432x1x32_S18432x8x32_0_1_2 (broadcastInDim S18432x1x32 ![0, 2] bcast_S18432x32_S18432x1x32_0_2 cs))))⟩] concatenates_S18432x8x32_S18432x8x32_S18432x8x64_d2)⟩] concatenates_S18432x8x64_S18432x8x64_S18432x8x128_d2)

/-- An entry of the key heads. -/
theorem heads8_at (X : FVec Ideal S18432x1024 .f32) (G : FVec Ideal S128 .f32) (i : Fin 18432) (h : Fin 8) (l : Fin 128) :
    heads8 X G (ix3 i h l) = unitEntry (fun x => X (ix2 i ⟨h * 128 + x, by omega⟩)) (G (ix1 l)) l := by
  pointwise [heads8, unitEntry]

/-- An entry of the turned key heads. -/
theorem turned8_at (Y : FVec Ideal S18432x8x128 .f32) (rc rs cc cs : FVec Ideal S18432x32 .f32) (i : Fin 18432) (h : Fin 8) (a : Fin 4) (d : Fin 32) :
    turned8 Y rc rs cc cs (ix3 i h ⟨a * 32 + d, by omega⟩)
      = turnEntry (fun x => Y (ix3 i h x)) (fun x => rc (ix2 i x)) (fun x => rs (ix2 i x)) (fun x => cc (ix2 i x)) (fun x => cs (ix2 i x)) a d := by
  pointwise [turned8, turnEntry]
  have eY : ∀ (p q : ℕ) (hp : p < 128) (hq : q < 128), p = q → Y (ix3 i h ⟨p, hp⟩) = Y (ix3 i h ⟨q, hq⟩) := by
    intro p q hp hq e; subst e; rfl
  have eT : ∀ (T : FVec Ideal S18432x32 .f32) (p q : ℕ) (hp : p < 32) (hq : q < 32), p = q → T (ix2 i ⟨p, hp⟩) = T (ix2 i ⟨q, hq⟩) := by
    intro T p q hp hq e; subst e; rfl
  fin_vals a with hk
  all_goals simp only [hk]
  all_goals split_ifs
  all_goals first
    | (exfalso; omega)
    | exact congrArg₂ (· - ·) (congrArg₂ (· * ·) (eY _ _ _ _ (by omega)) (eT _ _ _ _ _ (by omega))) (congrArg₂ (· * ·) (eY _ _ _ _ (by omega)) (eT _ _ _ _ _ (by omega)))
    | exact congrArg₂ (· + ·) (congrArg₂ (· * ·) (eY _ _ _ _ (by omega)) (eT _ _ _ _ _ (by omega))) (congrArg₂ (· * ·) (eY _ _ _ _ (by omega)) (eT _ _ _ _ _ (by omega)))

/-- The three parts side by side: turned queries, turned keys, plain values. -/
def assembled (P : FVec Ideal S18432x6144 .f32) (G K : FVec Ideal S128 .f32) (rc rs cc cs : FVec Ideal S18432x32 .f32) : FVec Ideal S18432x6144 .bf16 :=
  truncf .bf16 ((concatenate S18432x6144 1 [⟨S18432x4096, ((shapeCast S18432x4096 (turned32 (heads32 (extractStridedSlice S18432x4096 ![0, 0] P slices_S18432x6144_S18432x4096_0_0) G) rc rs cc cs) shapeCasts_S18432x32x128_S18432x4096) : (⟨S18432x4096, .f32⟩ : BufTy).Contents (Elt Ideal))⟩, ⟨S18432x1024, ((shapeCast S18432x1024 (turned8 (heads8 (extractStridedSlice S18432x1024 ![0, 4096] P slices_S18432x6144_S18432x1024_0_4096) K) rc rs cc cs) shapeCasts_S18432x8x128_S18432x1024) : (⟨S18432x1024, .f32⟩ : BufTy).Contents (Elt Ideal))⟩, ⟨S18432x1024, ((extractStridedSlice S18432x1024 ![0, 5120] P slices_S18432x6144_S18432x1024_0_5120) : (⟨S18432x1024, .f32⟩ : BufTy).Contents (Elt Ideal))⟩] concatenates_S18432x4096_S18432x1024_S18432x1024_S18432x6144_d1 : (⟨S18432x6144, .f32⟩ : BufTy).Contents (Elt Ideal))) bitsLt_bf16_f32

/-- A query entry of the result. -/
theorem assembled_q (P : FVec Ideal S18432x6144 .f32) (G K : FVec Ideal S128 .f32) (rc rs cc cs : FVec Ideal S18432x32 .f32) (i : Fin 18432) (h : Fin 32) (a : Fin 4) (d : Fin 32) :
    assembled P G K rc rs cc cs (ix2 i ⟨h * 128 + (a * 32 + d), by omega⟩)
      = turnEntry (fun l => unitEntry (fun x => P (ix2 i ⟨h * 128 + x, by omega⟩)) (G (ix1 l)) l) (fun x => rc (ix2 i x)) (fun x => rs (ix2 i x)) (fun x => cc (ix2 i x)) (fun x => cs (ix2 i x)) a d := by
  have b : h.val * 128 + (a.val * 32 + d.val) < 4096 := by omega
  pointwise [assembled]
  rw [dif_pos b]
  refine (congrArg (fun k => turned32 _ rc rs cc cs (ix3 i h k)) (Fin.ext (by dsimp only; omega : _ = (⟨a * 32 + d, by omega⟩ : Fin 128).val))).trans ((turned32_at _ rc rs cc cs i h a d).trans ?_)
  refine congrArg (fun f => turnEntry f _ _ _ _ a d) (funext fun x => (heads32_at _ _ i h x).trans ?_)
  refine congrArg (fun f => unitEntry f _ x) (funext fun y => ?_)
  pointwise

/-- A key entry of the result. -/
theorem assembled_k (P : FVec Ideal S18432x6144 .f32) (G K : FVec Ideal S128 .f32) (rc rs cc cs : FVec Ideal S18432x32 .f32) (i : Fin 18432) (h : Fin 8) (a : Fin 4) (d : Fin 32) :
    assembled P G K rc rs cc cs (ix2 i ⟨4096 + (h * 128 + (a * 32 + d)), by omega⟩)
      = turnEntry (fun l => unitEntry (fun x => P (ix2 i ⟨4096 + (h * 128 + x), by omega⟩)) (K (ix1 l)) l) (fun x => rc (ix2 i x)) (fun x => rs (ix2 i x)) (fun x => cc (ix2 i x)) (fun x => cs (ix2 i x)) a d := by
  have b : h.val * 128 + (a.val * 32 + d.val) < 1024 := by omega
  pointwise [assembled]
  rw [dif_pos b]
  refine (congrArg (fun k => turned8 _ rc rs cc cs (ix3 i h k)) (Fin.ext (by dsimp only; omega : _ = (⟨a * 32 + d, by omega⟩ : Fin 128).val))).trans ((turned8_at _ rc rs cc cs i h a d).trans ?_)
  refine congrArg (fun f => turnEntry f _ _ _ _ a d) (funext fun x => (heads8_at _ _ i h x).trans ?_)
  refine congrArg (fun f => unitEntry f _ x) (funext fun y => ?_)
  pointwise

/-- A value entry of the result. -/
theorem assembled_v (P : FVec Ideal S18432x6144 .f32) (G K : FVec Ideal S128 .f32) (rc rs cc cs : FVec Ideal S18432x32 .f32) (i : Fin 18432) (j : Fin 1024) :
    assembled P G K rc rs cc cs (ix2 i ⟨5120 + j, by omega⟩) = P (ix2 i ⟨5120 + j, by omega⟩) := by
  pointwise [assembled]
  rw [dif_neg (by omega), dif_neg (by omega)]
  exact congrArg (fun k => P (ix2 i k)) (Fin.ext (by simp only []; omega))

/-- The run's composed term is the formula. -/
theorem composed_eq (m : (ℓ : Loc nD τ sig) → Buf (Elt Ideal) ℓ) (c : Dev nD) : res_main_v102 m c
    = assembled (product (m ((c.tc : Thread nD τ).loc main_arg0)) (m ((c.tc : Thread nD τ).loc main_arg1))) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := rfl

end Cert.SwaQkvRefIdeal.Value
-- ==== Proof.SwaQkv.lean ====
module

public import proofs.«01_k».proof.Defs
public import proofs.«01_k».proof.Proof.Gen.SwaQkvIdeal.Value
public import proofs.«01_k».proof.Proof.SwaQkvRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwaQkvIdeal.Value

open Cert.SwaQkvIdeal Cert.SwaQkvIdeal.Gen

open Cert.NatQkvRefIdeal.Value (unitEntry)
open Cert.SwaQkvRefIdeal.Value (turnEntry product assembled)

variable (m : (ℓ : Loc nD τ sig) → Buf (Elt Ideal) ℓ)

/-- The row of gains the host lays beside the columns: the query gain 32 times, the key gain 8 times, ones. -/
abbrev gainRow (G K : FVec Ideal S128 .f32) : FVec Ideal S1x6144 .f32 :=
  broadcastInDim S1x6144 ![1] bcast_S6144_S1x6144_1 (concatenate S6144 0 [⟨S4096, shapeCast S4096 (broadcastInDim S32x128 ![0, 1] bcast_S1x128_S32x128_0_1 (shapeCast S1x128 G shapeCasts_S128_S1x128)) shapeCasts_S32x128_S4096⟩, ⟨S1024, shapeCast S1024 (broadcastInDim S8x128 ![0, 1] bcast_S1x128_S8x128_0_1 (shapeCast S1x128 K shapeCasts_S128_S1x128)) shapeCasts_S8x128_S1024⟩, ⟨S1024, broadcastInDim S1024 ![] bcast_S_S1024 (constant S_ .f32 0x3F800000#32)⟩] concatenates_S4096_S1024_S1024_S6144_d0)

/-- The row of gains as the kernel finds it. -/
theorem gain_eq (c : Dev nD) : V m c main_v8 = gainRow (m ((c : Thread nD τ).loc main_arg2)) (m ((c : Thread nD τ).loc main_arg3)) := rfl

/-- The cosines laid over a head's 128 places: the row's twice, the column's twice. -/
abbrev cosTable (rc cc : FVec Ideal S18432x32 .f32) : FVec Ideal S18432x128 .f32 :=
  concatenate S18432x128 1 [⟨S18432x32, rc⟩, ⟨S18432x32, rc⟩, ⟨S18432x32, cc⟩, ⟨S18432x32, cc⟩] concatenates_S18432x32_S18432x32_S18432x32_S18432x32_S18432x128_d1

/-- The sines laid over a head's 128 places, the first of each pair negated. -/
abbrev sinTable (rs cs : FVec Ideal S18432x32 .f32) : FVec Ideal S18432x128 .f32 :=
  concatenate S18432x128 1 [⟨S18432x32, Host.negf rs⟩, ⟨S18432x32, rs⟩, ⟨S18432x32, Host.negf cs⟩, ⟨S18432x32, cs⟩] concatenates_S18432x32_S18432x32_S18432x32_S18432x32_S18432x128_d1

/-- The cosines as the kernel finds them. -/
theorem cos_eq (c : Dev nD) : V m c main_v9 = cosTable (m ((c : Thread nD τ).loc main_arg4)) (m ((c : Thread nD τ).loc main_arg6)) := rfl

/-- The sines as the kernel finds them. -/
theorem sin_eq (c : Dev nD) : V m c main_v12 = sinTable (m ((c : Thread nD τ).loc main_arg5)) (m ((c : Thread nD τ).loc main_arg7)) := rfl

/-- The query gain repeated for each head. -/
theorem repeated_at (G : FVec Ideal S128 .f32) (h : Fin 32) (l : Fin 128) :
    (shapeCast S4096 (broadcastInDim S32x128 ![0, 1] bcast_S1x128_S32x128_0_1 (shapeCast S1x128 G shapeCasts_S128_S1x128)) shapeCasts_S32x128_S4096 : FVec Ideal S4096 .f32) (ix1 ⟨h * 128 + l, by omega⟩) = G (ix1 l) := by
  pointwise

/-- The first part of a row of three parts. -/
theorem first_at (a : FVec Ideal S4096 .f32) (b d : FVec Ideal S1024 .f32) (j : Fin 4096) :
    (broadcastInDim S1x6144 ![1] bcast_S6144_S1x6144_1 (concatenate S6144 0 [⟨S4096, a⟩, ⟨S1024, b⟩, ⟨S1024, d⟩] concatenates_S4096_S1024_S1024_S6144_d0) : FVec Ideal S1x6144 .f32) (ix2 0 ⟨j, by omega⟩) = a (ix1 j) := by
  pointwise

/-- A query column's gain. -/
theorem gain_q (G K : FVec Ideal S128 .f32) (h : Fin 32) (l : Fin 128) : gainRow G K (ix2 0 ⟨h * 128 + l, by omega⟩) = G (ix1 l) :=
  (first_at _ _ _ ⟨h * 128 + l, by omega⟩).trans (repeated_at G h l)

/-- A key column's gain. -/
theorem gain_k (G K : FVec Ideal S128 .f32) (h : Fin 8) (l : Fin 128) : gainRow G K (ix2 0 ⟨4096 + (h * 128 + l), by omega⟩) = K (ix1 l) := by
  have b : h.val * 128 + l.val < 1024 := by omega
  pointwise [gainRow]
  rw [dif_pos b]

/-- A cosine by its quarter and place. -/
theorem cos_at (rc cc : FVec Ideal S18432x32 .f32) (i : Fin 18432) (a : Fin 4) (d : Fin 32) :
    cosTable rc cc (ix2 i ⟨a * 32 + d, by omega⟩) = if a.val < 2 then rc (ix2 i d) else cc (ix2 i d) := by
  have eT : ∀ (T : FVec Ideal S18432x32 .f32) (p q : ℕ) (hp : p < 32) (hq : q < 32), p = q → T (ix2 i ⟨p, hp⟩) = T (ix2 i ⟨q, hq⟩) := by
    intro T p q hp hq e; subst e; rfl
  pointwise [cosTable]
  fin_vals a with hk
  all_goals simp only [hk]
  all_goals split_ifs
  all_goals first | (exfalso; omega) | exact eT _ _ _ _ _ (by omega)

/-- A sine by its quarter and place. -/
theorem sin_at (rs cs : FVec Ideal S18432x32 .f32) (i : Fin 18432) (a : Fin 4) (d : Fin 32) :
    sinTable rs cs (ix2 i ⟨a * 32 + d, by omega⟩)
      = if a.val = 0 then -rs (ix2 i d) else if a.val = 1 then rs (ix2 i d) else if a.val = 2 then -cs (ix2 i d) else cs (ix2 i d) := by
  have eT : ∀ (T : FVec Ideal S18432x32 .f32) (p q : ℕ) (hp : p < 32) (hq : q < 32), p = q → T (ix2 i ⟨p, hp⟩) = T (ix2 i ⟨q, hq⟩) := by
    intro T p q hp hq e; subst e; rfl
  pointwise [sinTable]
  fin_vals a with hk
  all_goals simp only [hk]
  all_goals split_ifs
  all_goals first | (exfalso; omega) | exact eT _ _ _ _ _ (by omega) | exact congrArg (fun a : EReal => -a) (eT _ _ _ _ _ (by omega))

/-- One entry of a head turned by lane rotations: the head times the cosines plus its partner lanes times the sines. -/
def rolled (U c s : Fin 128 → EReal) (l : Fin 128) : EReal :=
  U l * c l + (if l.val % 64 < 32 then U ⟨(l + 32) % 128, by omega⟩ else U ⟨(l + 96) % 128, by omega⟩) * s l

/-- With the laid-out tables, the rotated form is the turn. -/
theorem rolled_eq (U c s : Fin 128 → EReal) (rc rs cc cs : Fin 32 → EReal) (a : Fin 4) (d : Fin 32)
    (hc : c ⟨a * 32 + d, by omega⟩ = if a.val < 2 then rc d else cc d)
    (hs : s ⟨a * 32 + d, by omega⟩ = if a.val = 0 then -rs d else if a.val = 1 then rs d else if a.val = 2 then -cs d else cs d) :
    rolled U c s ⟨a * 32 + d, by omega⟩ = turnEntry U rc rs cc cs a d := by
  have eU : ∀ (p q : ℕ) (hp : p < 128) (hq : q < 128), p = q → U ⟨p, hp⟩ = U ⟨q, hq⟩ := by
    intro p q hp hq e; subst e; rfl
  rw [rolled, hc, hs, turnEntry]
  fin_vals a with hk
  all_goals simp only [hk]
  all_goals split_ifs
  all_goals first | (exfalso; omega) | skip
  all_goals try rw [sub_eq_add_neg, mul_neg]
  all_goals first
    | exact congrArg₂ (· + ·) (congrArg₂ (· * ·) (eU _ _ _ _ (by omega)) rfl) (congrArg₂ (· * ·) (eU _ _ _ _ (by omega)) rfl)
    | exact congrArg₂ (· + ·) (congrArg₂ (· * ·) (eU _ _ _ _ (by omega)) rfl) (congrArg (fun a : EReal => -a) (congrArg₂ (· * ·) (eU _ _ _ _ (by omega)) rfl))

/-- Equal heads, cosines and sines give equal entries. -/
theorem rolled_congr {U U' c c' s s' : Fin 128 → EReal} (l : Fin 128) (hU : ∀ x, U x = U' x) (hc : ∀ x, c x = c' x) (hs : ∀ x, s x = s' x) :
    rolled U c s l = rolled U' c' s' l := by
  rw [funext hU, funext hc, funext hs]

/-- The lane mask marks the first half of each pair of quarters. -/
theorem mask_at (r : Fin 1024) (l : Fin 128) : k0_pay3 (ix2 r l) = if l.val % 64 < 32 then 1#1 else 0#1 := by
  pointwise [k0_pay3]
  revert l
  decide +kernel

/-- The lane rotations under the mask are the partner lanes. -/
theorem roll_form (U c s : Fin 128 → EReal) (r : Fin 1024) (l : Fin 128) :
    U l * c l + Scalar.select (k0_pay3 (ix2 r l)) (U ⟨(l + 128 - 96) % 128, by omega⟩) (U ⟨(l + 128 - 32) % 128, by omega⟩) * s l = rolled U c s l := by
  rw [mask_at, rolled]
  by_cases h : l.val % 64 < 32
  · rw [if_pos h, if_pos h]; rfl
  · rw [if_neg h, if_neg h]; rfl

/-- A head of the tile, scaled and multiplied by its gains. -/
abbrev headRow (v3 : FVec Ideal S1024x512 .f32) (g : Vec Ideal S1x128 .f32) (r : Fin 1024) (h : Fin 4) (x : Fin 128) : EReal :=
  unitEntry (fun y => v3 (ix2 r ⟨h * 128 + y, by omega⟩)) (g (ix2 0 x)) x

/-- Head 0 of the tile before the turn. -/
theorem unit0_at (v3 : FVec Ideal S1024x512 .f32) (g : Vec Ideal S1x128 .f32) (r : Fin 1024) (l : Fin 128) :
    k0_pay4 v3 g (ix2 r l) = headRow v3 g r 0 l := by
  pointwise [k0_pay4, headRow, unitEntry]

/-- Head 2 of the tile before the turn. -/
theorem unit2_at (v3 : FVec Ideal S1024x512 .f32) (g : Vec Ideal S1x128 .f32) (r : Fin 1024) (l : Fin 128) :
    k0_pay10 v3 g (ix2 r l) = headRow v3 g r 2 l := by
  pointwise [k0_pay10, headRow, unitEntry]

/-- Head 0 of the tile. -/
theorem head0_at (v3 : FVec Ideal S1024x512 .f32) (g : Vec Ideal S1x128 .f32) (c s : Vec Ideal S1024x128 .f32) (r : Fin 1024) (l : Fin 128) :
    k0_pay8 (k0_pay5 v3 g) (k0_pay6 v3 g c) (k0_pay7 s) (ix2 r l) = rolled (headRow v3 g r 0) (fun x => c (ix2 r x)) (fun x => s (ix2 r x)) l := by
  pointwise [k0_pay8, k0_pay5, k0_pay6, k0_pay7]
  rw [unit0_at, unit0_at, unit0_at]
  exact roll_form (headRow v3 g r 0) (fun x => c (ix2 r x)) (fun x => s (ix2 r x)) r l

/-- Head 1 of the tile. -/
theorem head1_at (v3 : FVec Ideal S1024x512 .f32) (g : Vec Ideal S1x128 .f32) (c s : Vec Ideal S1024x128 .f32) (r : Fin 1024) (l : Fin 128) :
    k0_pay9 v3 k0_pay3 g c s (ix2 r l) = rolled (headRow v3 g r 1) (fun x => c (ix2 r x)) (fun x => s (ix2 r x)) l := by
  pointwise [k0_pay9]
  exact roll_form (headRow v3 g r 1) (fun x => c (ix2 r x)) (fun x => s (ix2 r x)) r l

/-- The four heads side by side. -/
theorem heads_at (v3 : FVec Ideal S1024x512 .f32) (v54 v80 : FVec Ideal S1024x128 .bf16) (g2 g3 : Vec Ideal S1x128 .f32) (c s : Vec Ideal S1024x128 .f32) (r : Fin 1024) (h : Fin 4) (l : Fin 128) :
    k0_pay11 v3 k0_pay3 v54 v80 (k0_pay10 v3 g2) c s g3 c s (ix2 r ⟨h * 128 + l, by omega⟩)
      = if h.val = 0 then v54 (ix2 r l) else if h.val = 1 then v80 (ix2 r l)
        else if h.val = 2 then rolled (headRow v3 g2 r 2) (fun x => c (ix2 r x)) (fun x => s (ix2 r x)) l
        else rolled (headRow v3 g3 r 3) (fun x => c (ix2 r x)) (fun x => s (ix2 r x)) l := by
  have e0 : 0 * 128 + l.val = l.val := by omega
  have e1 : 1 * 128 + l.val - 128 = l.val := by omega
  have e2 : 2 * 128 + l.val - 128 - 128 = l.val := by omega
  have e3 : 3 * 128 + l.val - 128 - 128 - 128 = l.val := by omega
  pointwise [k0_pay11]
  fin_vals h with hk
  all_goals simp only [hk]
  all_goals split_ifs
  all_goals first | (exfalso; omega) | skip
  · simp only [e0, Fin.eta]
  · simp only [e1, Fin.eta]
    rw [if_neg not_false]
  · simp only [e2, Fin.eta]
    rw [unit2_at, unit2_at, unit2_at]
    exact roll_form (headRow v3 g2 r 2) (fun x => c (ix2 r x)) (fun x => s (ix2 r x)) r l
  · simp only [e3, Fin.eta]
    exact roll_form (headRow v3 g3 r 3) (fun x => c (ix2 r x)) (fun x => s (ix2 r x)) r l

/-- What a point of the query and key columns stores, from its input blocks. -/
abbrev stored (x0 : Vec Ideal S1024x4096 .bf16) (x1 : Vec Ideal S4096x512 .bf16) (x2 : Vec Ideal S1x512 .f32) (x3 x4 : Vec Ideal S1024x128 .f32) : FVec Ideal S1024x512 .bf16 :=
  k0_pay11 (k0_pay1 x0 x1) k0_pay3
    (k0_pay8 (k0_pay5 (k0_pay1 x0 x1) (View.ld x2 (Rect.unit ![0, 0] ![1, 128] inb_S1x512_S1x128_0_0))) (k0_pay6 (k0_pay1 x0 x1) (View.ld x2 (Rect.unit ![0, 0] ![1, 128] inb_S1x512_S1x128_0_0)) x3) (k0_pay7 x4))
    (k0_pay9 (k0_pay1 x0 x1) k0_pay3 (View.ld x2 (Rect.unit ![0, 128] ![1, 128] inb_S1x512_S1x128_0_128)) x3 x4)
    (k0_pay10 (k0_pay1 x0 x1) (View.ld x2 (Rect.unit ![0, 256] ![1, 128] inb_S1x512_S1x128_0_256)))
    x3 x4 (View.ld x2 (Rect.unit ![0, 384] ![1, 128] inb_S1x512_S1x128_0_384)) x3 x4

/-- An entry of it, through its head of the tile and its place in the head. -/
theorem stored_at (x0 : Vec Ideal S1024x4096 .bf16) (x1 : Vec Ideal S4096x512 .bf16) (x2 : Vec Ideal S1x512 .f32) (x3 x4 : Vec Ideal S1024x128 .f32) (r : Fin 1024) (h : Fin 4) (l : Fin 128) :
    stored x0 x1 x2 x3 x4 (ix2 r ⟨h * 128 + l, by omega⟩)
      = rolled (fun x => unitEntry (fun y => k0_pay1 x0 x1 (ix2 r ⟨h * 128 + y, by omega⟩)) (x2 (ix2 0 ⟨h * 128 + x, by omega⟩)) x)
          (fun x => x3 (ix2 r x)) (fun x => x4 (ix2 r x)) l := by
  have ld (o : ℕ) (inb) (x : Fin 128) (p : Fin 512) (hp : p.val = o + x.val) : View.ld x2 (Rect.unit ![0, o] ![1, 128] inb) (ix2 0 x) = x2 (ix2 0 p) := by
    pointwise
    exact congrArg (fun k => x2 (ix2 0 k)) (Fin.ext hp.symm)
  refine (heads_at _ _ _ _ _ x3 x4 r h l).trans ?_
  obtain ⟨k, hk⟩ := h
  obtain rfl | rfl | rfl | rfl : k = 0 ∨ k = 1 ∨ k = 2 ∨ k = 3 := by omega
  · refine (head0_at _ _ x3 x4 r l).trans (rolled_congr l (fun x => ?_) (fun _ => rfl) (fun _ => rfl))
    exact congrArg (fun g => unitEntry _ g x) (ld 0 _ x _ (by dsimp only <;> omega))
  · refine (head1_at _ _ x3 x4 r l).trans (rolled_congr l (fun x => ?_) (fun _ => rfl) (fun _ => rfl))
    exact congrArg (fun g => unitEntry _ g x) (ld 128 _ x _ (by dsimp only <;> omega))
  · rw [if_neg (by dsimp only; omega), if_neg (by dsimp only; omega), if_pos rfl]
    refine rolled_congr l (fun x => ?_) (fun _ => rfl) (fun _ => rfl)
    exact congrArg (fun g => unitEntry _ g x) (ld 256 _ x _ (by dsimp only <;> omega))
  · rw [if_neg (by dsimp only; omega), if_neg (by dsimp only; omega), if_neg (by dsimp only; omega)]
    refine rolled_congr l (fun x => ?_) (fun _ => rfl) (fun _ => rfl)
    exact congrArg (fun g => unitEntry _ g x) (ld 384 _ x _ (by dsimp only <;> omega))

/-- Equal heads and equal gains give equal entries. -/
theorem unitEntry_congr {p p' : Fin 128 → EReal} {g g' : EReal} (l : Fin 128) (hp : ∀ x, p x = p' x) (hg : g = g') :
    unitEntry p g l = unitEntry p' g' l := by
  rw [funext hp, hg]

/-- Each window's block at a grid point. -/
theorem blockIdx : ∀ t : Fin cfg0.N, win0_0.index t = ![t.val / 12, 0] ∧ win0_1.index t = ![0, t.val % 12]
    ∧ win0_2.index t = ![0, t.val % 12] ∧ win0_3.index t = ![t.val / 12, 0] ∧ win0_4.index t = ![t.val / 12, 0] ∧ win0_5.index t = ![t.val / 12, t.val % 12] :=
  (by decide +kernel : ∀ t : Fin grid0.N, _)

/-- The tile's product is the whole product at the tile's place. -/
theorem pay1_at (c : Dev nD) (t : Fin cfg0.N) (r : Fin 1024) (q : Fin 512) (i : Fin 18432) (j : Fin 6144) (hi : i.val = t.val / 12 * 1024 + r) (hj : j.val = t.val % 12 * 512 + q) :
    k0_pay1 (iblk m c 0 t) (iblk m c 1 t) (ix2 r q) = product (m ((c : Thread nD τ).loc main_arg0)) (m ((c : Thread nD τ).loc main_arg1)) (ix2 i j) := by
  pointwise [k0_pay1, product]
  blk_point [iblk, V, blockIdx t]

/-- The tile's gains are the gain row's at the tile's columns. -/
theorem gain_at (c : Dev nD) (t : Fin cfg0.N) (q : Fin 512) (j : Fin 6144) (hj : j.val = t.val % 12 * 512 + q) :
    (show FVec Ideal S1x512 .f32 from iblk m c 2 t) (ix2 0 q) = gainRow (m ((c : Thread nD τ).loc main_arg2)) (m ((c : Thread nD τ).loc main_arg3)) (ix2 0 j) := by
  rw [← gain_eq]
  show V m c main_v8 (((cfg0.win 2).blk t).view.emb (ix2 0 q)) = _
  refine congrArg (V m c main_v8) ?_
  blk_ext [blockIdx t]

/-- The tile's cosines are the table's at the tile's rows. -/
theorem cosBlk_at (c : Dev nD) (t : Fin cfg0.N) (r : Fin 1024) (l : Fin 128) (i : Fin 18432) (hi : i.val = t.val / 12 * 1024 + r) :
    (show FVec Ideal S1024x128 .f32 from iblk m c 3 t) (ix2 r l) = cosTable (m ((c : Thread nD τ).loc main_arg4)) (m ((c : Thread nD τ).loc main_arg6)) (ix2 i l) := by
  rw [← cos_eq]
  show V m c main_v9 (((cfg0.win 3).blk t).view.emb (ix2 r l)) = _
  refine congrArg (V m c main_v9) ?_
  blk_ext [blockIdx t]

/-- The tile's sines are the table's at the tile's rows. -/
theorem sinBlk_at (c : Dev nD) (t : Fin cfg0.N) (r : Fin 1024) (l : Fin 128) (i : Fin 18432) (hi : i.val = t.val / 12 * 1024 + r) :
    (show FVec Ideal S1024x128 .f32 from iblk m c 4 t) (ix2 r l) = sinTable (m ((c : Thread nD τ).loc main_arg5)) (m ((c : Thread nD τ).loc main_arg7)) (ix2 i l) := by
  rw [← sin_eq]
  show V m c main_v12 (((cfg0.win 4).blk t).view.emb (ix2 r l)) = _
  refine congrArg (V m c main_v12) ?_
  blk_ext [blockIdx t]

/-- The formula the result array holds, over the arguments. -/
abbrev formula (c : Dev nD) : FVec Ideal S18432x6144 .bf16 :=
  assembled (product (m ((c : Thread nD τ).loc main_arg0)) (m ((c : Thread nD τ).loc main_arg1))) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- A block's place in the result array. -/
theorem place (t : Fin cfg0.N) (r : Fin 1024) (q : Fin 512) (i : Fin 18432) (j : Fin 6144) (hi : i.val = t.val / 12 * 1024 + r) (hj : j.val = t.val % 12 * 512 + q) :
    ((cfg0.win 5).blk t).view.emb (ix2 r q) = ix2 i j := by
  blk_ext [blockIdx t]

/-- What a point of the query and key columns stores is its tile of the formula. -/
theorem tileA (c : Dev nD) (t : Fin cfg0.N) (h0 : t.val % 12 ≤ 9) (y : S1024x512.Idx) :
    stored (iblk m c 0 t) (iblk m c 1 t) (iblk m c 2 t) (iblk m c 3 t) (iblk m c 4 t) y = formula m c (((cfg0.win 5).blk t).view.emb y) := by
  have ht : t.val < 216 := lt_of_lt_of_eq t.isLt N_0
  obtain ⟨r, q, rfl⟩ : ∃ (r : Fin 1024) (q : Fin 512), y = ix2 r q := ⟨y 0, y 1, eq_ix2 y⟩
  obtain ⟨h, a, d, rfl⟩ : ∃ (h : Fin 4) (a : Fin 4) (d : Fin 32), q = ⟨h * 128 + (a * 32 + d), by omega⟩ :=
    ⟨⟨q / 128, by omega⟩, ⟨q % 128 / 32, by omega⟩, ⟨q % 32, by omega⟩, Fin.ext (by dsimp only; omega)⟩
  refine (stored_at _ _ _ _ _ r h ⟨a * 32 + d, by omega⟩).trans ?_
  refine (rolled_eq _ _ _ (fun x => m ((c : Thread nD τ).loc main_arg4) (ix2 ⟨t.val / 12 * 1024 + r, by omega⟩ x)) (fun x => m ((c : Thread nD τ).loc main_arg5) (ix2 ⟨t.val / 12 * 1024 + r, by omega⟩ x))
    (fun x => m ((c : Thread nD τ).loc main_arg6) (ix2 ⟨t.val / 12 * 1024 + r, by omega⟩ x)) (fun x => m ((c : Thread nD τ).loc main_arg7) (ix2 ⟨t.val / 12 * 1024 + r, by omega⟩ x)) a d
    ((cosBlk_at m c t r _ ⟨t.val / 12 * 1024 + r, by omega⟩ rfl).trans (cos_at _ _ _ a d)) ((sinBlk_at m c t r _ ⟨t.val / 12 * 1024 + r, by omega⟩ rfl).trans (sin_at _ _ _ a d))).trans ?_
  by_cases hq : t.val % 12 < 8
  · rw [place t r _ ⟨t.val / 12 * 1024 + r, by omega⟩ ⟨(t.val % 12 * 4 + h.val) * 128 + (a.val * 32 + d.val), by omega⟩ rfl (by dsimp only; omega)]
    refine Eq.trans ?_ (Cert.SwaQkvRefIdeal.Value.assembled_q _ _ _ _ _ _ _ _ ⟨t.val % 12 * 4 + h.val, by omega⟩ a d).symm
    refine congrArg (fun f => turnEntry f _ _ _ _ a d) (funext fun l => unitEntry_congr l (fun x => pay1_at m c t r _ _ _ rfl (by dsimp only; omega)) ?_)
    exact (gain_at m c t _ _ (by dsimp only; omega)).trans (gain_q _ _ ⟨t.val % 12 * 4 + h.val, by omega⟩ l)
  · rw [place t r _ ⟨t.val / 12 * 1024 + r, by omega⟩ ⟨4096 + (((t.val % 12 - 8) * 4 + h.val) * 128 + (a.val * 32 + d.val)), by omega⟩ rfl (by dsimp only; omega)]
    refine Eq.trans ?_ (Cert.SwaQkvRefIdeal.Value.assembled_k _ _ _ _ _ _ _ _ ⟨(t.val % 12 - 8) * 4 + h.val, by omega⟩ a d).symm
    refine congrArg (fun f => turnEntry f _ _ _ _ a d) (funext fun l => unitEntry_congr l (fun x => pay1_at m c t r _ _ _ rfl (by dsimp only; omega)) ?_)
    exact (gain_at m c t _ _ (by dsimp only; omega)).trans (gain_k _ _ ⟨(t.val % 12 - 8) * 4 + h.val, by omega⟩ l)

/-- What a point of the value columns stores is its tile of the formula. -/
theorem tileB (c : Dev nD) (t : Fin cfg0.N) (h1 : 10 ≤ t.val % 12) (y : S1024x512.Idx) :
    k0_pay2 (iblk m c 0 t) (iblk m c 1 t) y = formula m c (((cfg0.win 5).blk t).view.emb y) := by
  have ht : t.val < 216 := lt_of_lt_of_eq t.isLt N_0
  obtain ⟨r, q, rfl⟩ : ∃ (r : Fin 1024) (q : Fin 512), y = ix2 r q := ⟨y 0, y 1, eq_ix2 y⟩
  rw [place t r q ⟨t.val / 12 * 1024 + r, by omega⟩ ⟨5120 + ((t.val % 12 - 10) * 512 + q.val), by omega⟩ rfl (by dsimp only; omega)]
  refine Eq.trans ?_ (Cert.SwaQkvRefIdeal.Value.assembled_v _ _ _ _ _ _ _ _ ⟨(t.val % 12 - 10) * 512 + q.val, by omega⟩).symm
  exact pay1_at m c t r q _ _ rfl (by dsimp only; omega)

/-- The result array after the run. -/
theorem result (c : Dev nD) : (dats m 0 c).arrAt 5 (cfgs 0).N = formula m c := by
  refine (dats m 0 c).arrAt_eq_of_covers 5 _ (by decide +kernel) fun t _ y => ?_
  blk_simp
  rw [after0_5]
  by_cases h : t.val % 12 ≤ 9
  · rw [outsAt0_A m c t h (by omega)]
    frame_out
    exact tileA m c t h y
  · rw [outsAt0_B m c t h (by omega)]
    frame_out
    exact tileB m c t (by omega) y

end Cert.SwaQkvIdeal.Value

/-- The query, key and value rows of a windowed layer equal the formula's, as extended reals. -/
theorem Cert.Proof.algebraic_swaqkv : Cert.algebraic_SwaQkvIdeal_SwaQkvRefIdeal := by
  pair_intro
  · run_from Cert.SwaQkvIdeal.Gen.run_main m g
  · refine (θ_run _ _ _).mono (fun r h c => ?_) (Cert.SwaQkvRefIdeal.Value.run m' g')
    refine ⟨(h c).1.trans ?_, (h c).2⟩
    rw [Cert.SwaQkvRefIdeal.Value.composed_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.SwaQkvIdeal.Value.result m c).symm

end
-- ==== Proof.lean ====
/- The claims about the layer's calls: the windowed attention, the projections that add into the residual, the shared expert, the routed experts and the two kinds of joint projections. -/
module

public import proofs.«01_k».proof.Proof.Gen.Experts.Launch
public import proofs.«01_k».proof.Proof.Gen.Experts.Skeleton
public import proofs.«01_k».proof.Proof.Gen.ExpertsIdeal.Launch
public import proofs.«01_k».proof.Proof.Gen.ExpertsIdeal.Skeleton
public import proofs.«01_k».proof.Proof.Gen.ExpertsRefIdeal.Run
public import proofs.«01_k».proof.Proof.Gen.Pre_tables_ok
public import proofs.«01_k».proof.Proof.Gen.On_in_use
public import proofs.«01_k».proof.Defs
public import proofs.«01_k».proof.Proof.SwaClaim
public import proofs.«01_k».proof.Proof.OutProj
public import proofs.«01_k».proof.Proof.SharedUp
public import proofs.«01_k».proof.Proof.SharedDown
public import proofs.«01_k».proof.Proof.ExpertsClaim
public import proofs.«01_k».proof.Proof.Gen.Swa.Frame
public import proofs.«01_k».proof.Proof.Gen.OutProj.Frame
public import proofs.«01_k».proof.Proof.Gen.SharedUp.Frame
public import proofs.«01_k».proof.Proof.Gen.SharedDown.Frame
public import proofs.«01_k».proof.Proof.Gen.Pre_finite
public import proofs.«01_k».proof.Proof.Gen.NatQkv.Frame
public import proofs.«01_k».proof.Proof.NatQkv
public import proofs.«01_k».proof.Proof.Gen.SwaQkv.Frame
public import proofs.«01_k».proof.Proof.SwaQkv
public import Idealize.ShloMosaic.Lib.Claim

@[expose] public section

set_option maxRecDepth 16384

open Idealize.ShloMosaic Idealize.ShloMosaic.TcCoe Idealize.SL.Sem

namespace Cert.Proof

/-- The formula of `Swa` runs to its end. -/
theorem quietSwa : Cert.quiescent_SwaRefIdeal (hSwaRefIdeal := Cert.SwaRefIdeal.Gen.facts) := fun m g _ =>
  (θ_run Cert.SwaRefIdeal.defs _ _).mono (fun r h => ⟨fun c => (h c).2, sem_eq_zero_of_no_sems (by decide) r.2⟩)
    (Cert.SwaRefIdeal.Value.run (F := Ideal) m g)

/-- The formula of `OutProj` runs to its end. -/
theorem quietOutProj : Cert.quiescent_OutProjRefIdeal (hOutProjRefIdeal := Cert.OutProjRefIdeal.Gen.facts) := fun m g _ =>
  (θ_run Cert.OutProjRefIdeal.defs _ _).mono (fun r h => ⟨fun c => (h c).2, sem_eq_zero_of_no_sems (by decide) r.2⟩)
    (Cert.OutProjRefIdeal.Value.run (F := Ideal) m g)

/-- The formula of `SharedUp` runs to its end. -/
theorem quietSharedUp : Cert.quiescent_SharedUpRefIdeal (hSharedUpRefIdeal := Cert.SharedUpRefIdeal.Gen.facts) := fun m g _ =>
  (θ_run Cert.SharedUpRefIdeal.defs _ _).mono (fun r h => ⟨fun c => (h c).2, sem_eq_zero_of_no_sems (by decide) r.2⟩)
    (Cert.SharedUpRefIdeal.Value.run (F := Ideal) m g)

/-- The formula of `SharedDown` runs to its end. -/
theorem quietSharedDown : Cert.quiescent_SharedDownRefIdeal (hSharedDownRefIdeal := Cert.SharedDownRefIdeal.Gen.facts) := fun m g _ =>
  (θ_run Cert.SharedDownRefIdeal.defs _ _).mono (fun r h => ⟨fun c => (h c).2, sem_eq_zero_of_no_sems (by decide) r.2⟩)
    (Cert.SharedDownRefIdeal.Value.run (F := Ideal) m g)

/-- The formula of `NatQkv` runs to its end. -/
theorem quietNatQkv : Cert.quiescent_NatQkvRefIdeal (hNatQkvRefIdeal := Cert.NatQkvRefIdeal.Gen.facts) := fun m g _ =>
  (θ_run Cert.NatQkvRefIdeal.defs _ _).mono (fun r h => ⟨fun c => (h c).2, sem_eq_zero_of_no_sems (by decide) r.2⟩)
    (Cert.NatQkvRefIdeal.Value.run (F := Ideal) m g)

/-- The formula of `SwaQkv` runs to its end. -/
theorem quietSwaQkv : Cert.quiescent_SwaQkvRefIdeal (hSwaQkvRefIdeal := Cert.SwaQkvRefIdeal.Gen.facts) := fun m g _ =>
  (θ_run Cert.SwaQkvRefIdeal.defs _ _).mono (fun r h => ⟨fun c => (h c).2, sem_eq_zero_of_no_sems (by decide) r.2⟩)
    (Cert.SwaQkvRefIdeal.Value.run (F := Ideal) m g)

/-- Everything `Defs.lean` states. -/
theorem claim : Cert.Claim :=
  ⟨Cert.Swa.Gen.facts, Cert.SwaIdeal.Gen.facts, Cert.SwaRefIdeal.Gen.facts, Cert.OutProj.Gen.facts, Cert.OutProjIdeal.Gen.facts, Cert.OutProjRefIdeal.Gen.facts, Cert.SharedUp.Gen.facts, Cert.SharedUpIdeal.Gen.facts, Cert.SharedUpRefIdeal.Gen.facts, Cert.SharedDown.Gen.facts, Cert.SharedDownIdeal.Gen.facts, Cert.SharedDownRefIdeal.Gen.facts, Cert.Experts.Gen.facts, Cert.ExpertsIdeal.Gen.facts, Cert.ExpertsRefIdeal.Gen.facts, Cert.NatQkv.Gen.facts, Cert.NatQkvIdeal.Gen.facts, Cert.NatQkvRefIdeal.Gen.facts, Cert.SwaQkv.Gen.facts, Cert.SwaQkvIdeal.Gen.facts, Cert.SwaQkvRefIdeal.Gen.facts, Cert.Pre_finite.Gen.facts, Cert.Pre_tables_ok.Gen.facts, Cert.On_in_use.Gen.facts,
   fun m g _ => Cert.Swa.Gen.frame m g,
   fun m g _ => Cert.SwaIdeal.Gen.frame m g,
   fun m g _ => Cert.SwaIdeal.Gen.frame m g,
   quietSwa,
   fun m g _ => quietSwa m g trivial,
   fun m g _ => Cert.OutProj.Gen.frame m g,
   fun m g _ => Cert.OutProjIdeal.Gen.frame m g,
   quietOutProj,
   fun m g _ => Cert.SharedUp.Gen.frame m g,
   fun m g _ => Cert.SharedUpIdeal.Gen.frame m g,
   quietSharedUp,
   fun m g _ => Cert.SharedDown.Gen.frame m g,
   fun m g _ => Cert.SharedDownIdeal.Gen.frame m g,
   quietSharedDown,
   quietExperts,
   quietExpertsIdeal,
   quietExpertsRef,
   fun m g _ => quietExpertsRef m g trivial,
   fun m g _ => Cert.NatQkv.Gen.frame m g,
   fun m g _ => Cert.NatQkvIdeal.Gen.frame m g,
   quietNatQkv,
   fun m g _ => Cert.SwaQkv.Gen.frame m g,
   fun m g _ => Cert.SwaQkvIdeal.Gen.frame m g,
   quietSwaQkv,
   IdealRules.named_const.statement Cert.SwaIdeal.κ "mask" .f32 0xF149F2CA#32 ⊥ rfl,
   algebraic_swa,
   trivial,
   algebraic_out,
   trivial,
   algebraic_up,
   trivial,
   algebraic_down,
   trivial,
   algebraic_experts,
   trivial,
   algebraic_natqkv,
   trivial,
   algebraic_swaqkv⟩

end Cert.Proof

end
